-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S2x4x256x1024 : Shape := ⟨4, ![2, 4, 256, 1024]⟩
abbrev S2x3x4x256x1024 : Shape := ⟨5, ![2, 3, 4, 256, 1024]⟩
abbrev S2x4 : Shape := ⟨2, ![2, 4]⟩
abbrev S2x3x4 : Shape := ⟨3, ![2, 3, 4]⟩
abbrev S2x1024x1024 : Shape := ⟨3, ![2, 1024, 1024]⟩
abbrev S2 : Shape := ⟨1, ![2]⟩
abbrev S_ : Shape := ⟨0, ![]⟩
abbrev S1x1024x1024 : Shape := ⟨3, ![1, 1024, 1024]⟩
abbrev S1024x1024 : Shape := ⟨2, ![1024, 1024]⟩
abbrev S256x1024 : Shape := ⟨2, ![256, 1024]⟩
abbrev S1x1x256x1024 : Shape := ⟨4, ![1, 1, 256, 1024]⟩
abbrev S1x1 : Shape := ⟨2, ![1, 1]⟩
abbrev S1x1x1 : Shape := ⟨3, ![1, 1, 1]⟩
abbrev S1x1x1x256x1024 : Shape := ⟨5, ![1, 1, 1, 256, 1024]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x2048, .f32⟩
  | .local _ .vmem, ⟨1, _⟩ => ⟨S2x4x256x1024, .bf16⟩
  | .local _ .vmem, ⟨2, _⟩ => ⟨S2x3x4x256x1024, .bf16⟩
  | .local _ .vmem, ⟨3, _⟩ => ⟨S4096x1024, .fp8e4m3⟩
  | .local _ .vmem, ⟨4, _⟩ => ⟨S1024x2048, .fp8e4m3⟩
  | .local _ .vmem, ⟨5, _⟩ => ⟨S2x1024x1024, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_16 : BitVec 32 := 1#32
  let v30 : BitVec 32 := Scalar.muli v14 c1_i32_16
  let v31 : BitVec 32 := Scalar.addi c0_i32_17 v30
  v31.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_19 : BitVec 32 := 1#32
  let v32 : BitVec 32 := Scalar.muli v25 c1_i32_19
  let v33 : BitVec 32 := Scalar.addi c0_i32_20 v32
  v33.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v39 : BitVec 32 := Scalar.muli v2 c1024_i32
  let c0_i32_31 : BitVec 32 := 0#32
  ![v39.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_50 : BitVec 32 := 1024#32
  let v64 : BitVec 32 := Scalar.muli v2 c1024_i32_50
  let v65 : Index := Scalar.indexCast v64
  let c0_51 : Index := 0#32
  ![v65.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_56 : BitVec 32 := 1024#32
  let v74 : BitVec 32 := Scalar.muli v2 c1024_i32_56
  let v75 : Index := Scalar.indexCast v74
  let c0_57 : Index := 0#32
  ![v75.toNat, 0]
def k0_off4 (d0 : Dev nD) (c0_i32_59 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_58 : BitVec 32 := 1024#32
  let v77 : BitVec 32 := Scalar.muli v2 c1024_i32_58
  let v78 : BitVec 32 := Scalar.addi v77 c0_i32_59
  let v79 : Index := Scalar.indexCast v78
  let c0_60 : Index := 0#32
  ![v79.toNat, 0]
def k0_dev3 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_75 : BitVec 32 := 1#32
  let v86 : BitVec 32 := Scalar.muli v25 c1_i32_75
  let v87 : BitVec 32 := Scalar.addi c0_i32_76 v86
  v87.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_102 : BitVec 32 := 1024#32
  let v117 : BitVec 32 := Scalar.muli v2 c1024_i32_102
  let v118 : Index := Scalar.indexCast v117
  let c1024_103 : Index := 1024#32
  ![v118.toNat, 1024]
def k0_off6 (d0 : Dev nD) (c0_i32_105 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_104 : BitVec 32 := 1024#32
  let v120 : BitVec 32 := Scalar.muli v2 c1024_i32_104
  let v121 : BitVec 32 := Scalar.addi v120 c0_i32_105
  let v122 : Index := Scalar.indexCast v121
  let c1024_106 : Index := 1024#32
  ![v122.toNat, 1024]
def k0_dev4 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v129 : BitVec 32 := Scalar.muli v14 c1_i32_121
  let v130 : BitVec 32 := Scalar.addi c0_i32_122 v129
  v130.toNat
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_143 : BitVec 32 := 1#32
  let v148 : BitVec 32 := Scalar.muli v25 c1_i32_143
  let v149 : BitVec 32 := Scalar.addi c0_i32_144 v148
  v149.toNat
def k0_dev6 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_166 : BitVec 32 := 1#32
  let v167 : BitVec 32 := Scalar.muli v14 c1_i32_166
  let v168 : BitVec 32 := Scalar.addi c0_i32_167 v167
  v168.toNat
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_187 : BitVec 32 := 1#32
  let v186 : BitVec 32 := Scalar.muli v25 c1_i32_187
  let v187 : BitVec 32 := Scalar.addi c0_i32_188 v186
  v187.toNat
def k0_dev8 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_210 : BitVec 32 := 1#32
  let v205 : BitVec 32 := Scalar.muli v14 c1_i32_210
  let v206 : BitVec 32 := Scalar.addi c0_i32_211 v205
  v206.toNat
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_230 : BitVec 32 := 1#32
  let v224 : BitVec 32 := Scalar.muli v25 c1_i32_230
  let v225 : BitVec 32 := Scalar.addi c0_i32_231 v224
  v225.toNat
def k0_dev10 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_253 : BitVec 32 := 1#32
  let v243 : BitVec 32 := Scalar.muli v14 c1_i32_253
  let v244 : BitVec 32 := Scalar.addi c0_i32_254 v243
  v244.toNat
def k0_off7 (d0 : Dev nD) (c3_i32_259 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v253 : BitVec 32 := Scalar.addi v2 c3_i32_259
  let c4_i32_260 : BitVec 32 := 4#32
  let c0_i32_261 : BitVec 32 := 0#32
  let v254 : BitVec 1 := Scalar.cmpi .eq c4_i32_260 c0_i32_261
  let c1_i32_262 : BitVec 32 := 1#32
  let v255 : BitVec 32 := Scalar.select v254 c1_i32_262 c4_i32_260
  let v256 : BitVec 32 := Scalar.remsi v253 v255
  let c0_i32_264 : BitVec 32 := 0#32
  let v258 : BitVec 1 := Scalar.cmpi .slt v256 c0_i32_264
  let c0_i32_265 : BitVec 32 := 0#32
  let v259 : BitVec 1 := Scalar.cmpi .slt v255 c0_i32_265
  let v260 : BitVec 1 := Scalar.xori v258 v259
  let c0_i32_263 : BitVec 32 := 0#32
  let v257 : BitVec 1 := Scalar.cmpi .ne v256 c0_i32_263
  let v261 : BitVec 1 := Scalar.andi v260 v257
  let v262 : BitVec 32 := Scalar.addi v256 v255
  let v263 : BitVec 32 := Scalar.select v261 v262 v256
  let c1024_i32_266 : BitVec 32 := 1024#32
  let v264 : BitVec 32 := Scalar.muli v263 c1024_i32_266
  let c0_i32_271 : BitVec 32 := 0#32
  ![v264.toNat, 0]
def k0_off8 (d0 : Dev nD) (c3_i32_259 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v253 : BitVec 32 := Scalar.addi v2 c3_i32_259
  let c4_i32_260 : BitVec 32 := 4#32
  let c0_i32_261 : BitVec 32 := 0#32
  let v254 : BitVec 1 := Scalar.cmpi .eq c4_i32_260 c0_i32_261
  let c1_i32_262 : BitVec 32 := 1#32
  let v255 : BitVec 32 := Scalar.select v254 c1_i32_262 c4_i32_260
  let v256 : BitVec 32 := Scalar.remsi v253 v255
  let c0_i32_264 : BitVec 32 := 0#32
  let v258 : BitVec 1 := Scalar.cmpi .slt v256 c0_i32_264
  let c0_i32_265 : BitVec 32 := 0#32
  let v259 : BitVec 1 := Scalar.cmpi .slt v255 c0_i32_265
  let v260 : BitVec 1 := Scalar.xori v258 v259
  let c0_i32_263 : BitVec 32 := 0#32
  let v257 : BitVec 1 := Scalar.cmpi .ne v256 c0_i32_263
  let v261 : BitVec 1 := Scalar.andi v260 v257
  let v262 : BitVec 32 := Scalar.addi v256 v255
  let v263 : BitVec 32 := Scalar.select v261 v262 v256
  let c1024_i32_280 : BitVec 32 := 1024#32
  let v278 : BitVec 32 := Scalar.muli v263 c1024_i32_280
  let v279 : Index := Scalar.indexCast v278
  let c0_281 : Index := 0#32
  ![v279.toNat, 0]
def k0_off9 (d0 : Dev nD) (c3_i32_282 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v283 : BitVec 32 := Scalar.addi v2 c3_i32_282
  let c4_i32_283 : BitVec 32 := 4#32
  let c0_i32_284 : BitVec 32 := 0#32
  let v284 : BitVec 1 := Scalar.cmpi .eq c4_i32_283 c0_i32_284
  let c1_i32_285 : BitVec 32 := 1#32
  let v285 : BitVec 32 := Scalar.select v284 c1_i32_285 c4_i32_283
  let v286 : BitVec 32 := Scalar.remsi v283 v285
  let c0_i32_287 : BitVec 32 := 0#32
  let v288 : BitVec 1 := Scalar.cmpi .slt v286 c0_i32_287
  let c0_i32_288 : BitVec 32 := 0#32
  let v289 : BitVec 1 := Scalar.cmpi .slt v285 c0_i32_288
  let v290 : BitVec 1 := Scalar.xori v288 v289
  let c0_i32_286 : BitVec 32 := 0#32
  let v287 : BitVec 1 := Scalar.cmpi .ne v286 c0_i32_286
  let v291 : BitVec 1 := Scalar.andi v290 v287
  let v292 : BitVec 32 := Scalar.addi v286 v285
  let v293 : BitVec 32 := Scalar.select v291 v292 v286
  let c1024_i32_294 : BitVec 32 := 1024#32
  let v299 : BitVec 32 := Scalar.muli v293 c1024_i32_294
  let v300 : Index := Scalar.indexCast v299
  let c0_295 : Index := 0#32
  ![v300.toNat, 0]
def k0_off10 (d0 : Dev nD) (c1_i32_319 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v332 : BitVec 32 := Scalar.addi v2 c1_i32_319
  let c4_i32_320 : BitVec 32 := 4#32
  let c0_i32_321 : BitVec 32 := 0#32
  let v333 : BitVec 1 := Scalar.cmpi .eq c4_i32_320 c0_i32_321
  let c1_i32_322 : BitVec 32 := 1#32
  let v334 : BitVec 32 := Scalar.select v333 c1_i32_322 c4_i32_320
  let v335 : BitVec 32 := Scalar.remsi v332 v334
  let c0_i32_324 : BitVec 32 := 0#32
  let v337 : BitVec 1 := Scalar.cmpi .slt v335 c0_i32_324
  let c0_i32_325 : BitVec 32 := 0#32
  let v338 : BitVec 1 := Scalar.cmpi .slt v334 c0_i32_325
  let v339 : BitVec 1 := Scalar.xori v337 v338
  let c0_i32_323 : BitVec 32 := 0#32
  let v336 : BitVec 1 := Scalar.cmpi .ne v335 c0_i32_323
  let v340 : BitVec 1 := Scalar.andi v339 v336
  let v341 : BitVec 32 := Scalar.addi v335 v334
  let v342 : BitVec 32 := Scalar.select v340 v341 v335
  let c1024_i32_331 : BitVec 32 := 1024#32
  let v348 : BitVec 32 := Scalar.muli v342 c1024_i32_331
  let v349 : Index := Scalar.indexCast v348
  let c1024_332 : Index := 1024#32
  ![v349.toNat, 1024]
def k0_off11 (d0 : Dev nD) (c0_i32_366 : BitVec 32) (c0_i32_374 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_364 : BitVec 32 := 4#32
  let v365 : BitVec 32 := Scalar.addi v2 c4_i32_364
  let c1_i32_365 : BitVec 32 := 1#32
  let v366 : BitVec 32 := Scalar.subi v365 c1_i32_365
  let v367 : BitVec 32 := Scalar.subi v366 c0_i32_366
  let c4_i32_367 : BitVec 32 := 4#32
  let c0_i32_368 : BitVec 32 := 0#32
  let v368 : BitVec 1 := Scalar.cmpi .eq c4_i32_367 c0_i32_368
  let c1_i32_369 : BitVec 32 := 1#32
  let v369 : BitVec 32 := Scalar.select v368 c1_i32_369 c4_i32_367
  let v370 : BitVec 32 := Scalar.remsi v367 v369
  let c0_i32_371 : BitVec 32 := 0#32
  let v372 : BitVec 1 := Scalar.cmpi .slt v370 c0_i32_371
  let c0_i32_372 : BitVec 32 := 0#32
  let v373 : BitVec 1 := Scalar.cmpi .slt v369 c0_i32_372
  let v374 : BitVec 1 := Scalar.xori v372 v373
  let c0_i32_370 : BitVec 32 := 0#32
  let v371 : BitVec 1 := Scalar.cmpi .ne v370 c0_i32_370
  let v375 : BitVec 1 := Scalar.andi v374 v371
  let v376 : BitVec 32 := Scalar.addi v370 v369
  let v377 : BitVec 32 := Scalar.select v375 v376 v370
  let c1024_i32_373 : BitVec 32 := 1024#32
  let v378 : BitVec 32 := Scalar.muli v377 c1024_i32_373
  let v379 : BitVec 32 := Scalar.addi v378 c0_i32_374
  let v380 : Index := Scalar.indexCast v379
  let c0_375 : Index := 0#32
  ![v380.toNat, 0]
def k0_dev11 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_395 : BitVec 32 := 1#32
  let v391 : BitVec 32 := Scalar.muli v25 c1_i32_395
  let v392 : BitVec 32 := Scalar.addi c0_i32_396 v391
  v392.toNat
def k0_off12 (d0 : Dev nD) (c1_i32_432 : BitVec 32) (c0_i32_433 : BitVec 32) (c0_i32_441 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v415 : BitVec 32 := Scalar.addi v2 c1_i32_432
  let v416 : BitVec 32 := Scalar.addi v415 c0_i32_433
  let c4_i32_434 : BitVec 32 := 4#32
  let c0_i32_435 : BitVec 32 := 0#32
  let v417 : BitVec 1 := Scalar.cmpi .eq c4_i32_434 c0_i32_435
  let c1_i32_436 : BitVec 32 := 1#32
  let v418 : BitVec 32 := Scalar.select v417 c1_i32_436 c4_i32_434
  let v419 : BitVec 32 := Scalar.remsi v416 v418
  let c0_i32_438 : BitVec 32 := 0#32
  let v421 : BitVec 1 := Scalar.cmpi .slt v419 c0_i32_438
  let c0_i32_439 : BitVec 32 := 0#32
  let v422 : BitVec 1 := Scalar.cmpi .slt v418 c0_i32_439
  let v423 : BitVec 1 := Scalar.xori v421 v422
  let c0_i32_437 : BitVec 32 := 0#32
  let v420 : BitVec 1 := Scalar.cmpi .ne v419 c0_i32_437
  let v424 : BitVec 1 := Scalar.andi v423 v420
  let v425 : BitVec 32 := Scalar.addi v419 v418
  let v426 : BitVec 32 := Scalar.select v424 v425 v419
  let c1024_i32_440 : BitVec 32 := 1024#32
  let v427 : BitVec 32 := Scalar.muli v426 c1024_i32_440
  let v428 : BitVec 32 := Scalar.addi v427 c0_i32_441
  let v429 : Index := Scalar.indexCast v428
  let c1024_442 : Index := 1024#32
  ![v429.toNat, 1024]
def k0_dev12 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_462 : BitVec 32 := 1#32
  let v440 : BitVec 32 := Scalar.muli v14 c1_i32_462
  let v441 : BitVec 32 := Scalar.addi c0_i32_463 v440
  v441.toNat
def k0_dev13 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_530 : BitVec 32 := 1#32
  let v490 : BitVec 32 := Scalar.muli v25 c1_i32_530
  let v491 : BitVec 32 := Scalar.addi c0_i32_531 v490
  v491.toNat
def k0_dev14 (d0 : Dev nD) : Nat :=
  let c0_i32_598 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_597 : BitVec 32 := 1#32
  let v539 : BitVec 32 := Scalar.muli v14 c1_i32_597
  let v540 : BitVec 32 := Scalar.addi c0_i32_598 v539
  v540.toNat
def k0_dev15 (d0 : Dev nD) : Nat :=
  let c0_i32_666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_665 : BitVec 32 := 1#32
  let v589 : BitVec 32 := Scalar.muli v25 c1_i32_665
  let v590 : BitVec 32 := Scalar.addi c0_i32_666 v589
  v590.toNat
def k0_dev16 (d0 : Dev nD) : Nat :=
  let c0_i32_733 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_732 : BitVec 32 := 1#32
  let v638 : BitVec 32 := Scalar.muli v14 c1_i32_732
  let v639 : BitVec 32 := Scalar.addi c0_i32_733 v638
  v639.toNat
def k0_dev17 (d0 : Dev nD) : Nat :=
  let c0_i32_801 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_800 : BitVec 32 := 1#32
  let v688 : BitVec 32 := Scalar.muli v25 c1_i32_800
  let v689 : BitVec 32 := Scalar.addi c0_i32_801 v688
  v689.toNat
def k0_dev18 (d0 : Dev nD) : Nat :=
  let c0_i32_868 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_867 : BitVec 32 := 1#32
  let v737 : BitVec 32 := Scalar.muli v14 c1_i32_867
  let v738 : BitVec 32 := Scalar.addi c0_i32_868 v737
  v738.toNat
def k0_dev19 (d0 : Dev nD) : Nat :=
  let c0_i32_987 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_986 : BitVec 32 := 1#32
  let v855 : BitVec 32 := Scalar.muli v25 c1_i32_986
  let v856 : BitVec 32 := Scalar.addi c0_i32_987 v855
  v856.toNat
def k0_dev20 (d0 : Dev nD) : Nat :=
  let c0_i32_1054 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1053 : BitVec 32 := 1#32
  let v904 : BitVec 32 := Scalar.muli v14 c1_i32_1053
  let v905 : BitVec 32 := Scalar.addi c0_i32_1054 v904
  v905.toNat
def k0_dev21 (d0 : Dev nD) : Nat :=
  let c0_i32_1122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1121 : BitVec 32 := 1#32
  let v954 : BitVec 32 := Scalar.muli v25 c1_i32_1121
  let v955 : BitVec 32 := Scalar.addi c0_i32_1122 v954
  v955.toNat
def k0_dev22 (d0 : Dev nD) : Nat :=
  let c0_i32_1189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1188 : BitVec 32 := 1#32
  let v1003 : BitVec 32 := Scalar.muli v14 c1_i32_1188
  let v1004 : BitVec 32 := Scalar.addi c0_i32_1189 v1003
  v1004.toNat
def k0_dev23 (d0 : Dev nD) : Nat :=
  let c0_i32_1257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1256 : BitVec 32 := 1#32
  let v1053 : BitVec 32 := Scalar.muli v25 c1_i32_1256
  let v1054 : BitVec 32 := Scalar.addi c0_i32_1257 v1053
  v1054.toNat
def k0_dev24 (d0 : Dev nD) : Nat :=
  let c0_i32_1324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1323 : BitVec 32 := 1#32
  let v1102 : BitVec 32 := Scalar.muli v14 c1_i32_1323
  let v1103 : BitVec 32 := Scalar.addi c0_i32_1324 v1102
  v1103.toNat
def k0_dev25 (d0 : Dev nD) : Nat :=
  let c0_i32_1392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1391 : BitVec 32 := 1#32
  let v1152 : BitVec 32 := Scalar.muli v25 c1_i32_1391
  let v1153 : BitVec 32 := Scalar.addi c0_i32_1392 v1152
  v1153.toNat
def k0_dev26 (d0 : Dev nD) : Nat :=
  let c0_i32_1459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1458 : BitVec 32 := 1#32
  let v1201 : BitVec 32 := Scalar.muli v14 c1_i32_1458
  let v1202 : BitVec 32 := Scalar.addi c0_i32_1459 v1201
  v1202.toNat
def k0_dev27 (d0 : Dev nD) : Nat :=
  let c0_i32_1556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1555 : BitVec 32 := 1#32
  let v1293 : BitVec 32 := Scalar.muli v25 c1_i32_1555
  let v1294 : BitVec 32 := Scalar.addi c0_i32_1556 v1293
  v1294.toNat
def k0_dev28 (d0 : Dev nD) : Nat :=
  let c0_i32_1624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1623 : BitVec 32 := 1#32
  let v1346 : BitVec 32 := Scalar.muli v14 c1_i32_1623
  let v1347 : BitVec 32 := Scalar.addi c0_i32_1624 v1346
  v1347.toNat
def k0_dev29 (d0 : Dev nD) : Nat :=
  let c0_i32_1699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1698 : BitVec 32 := 1#32
  let v1408 : BitVec 32 := Scalar.muli v25 c1_i32_1698
  let v1409 : BitVec 32 := Scalar.addi c0_i32_1699 v1408
  v1409.toNat
def k0_dev30 (d0 : Dev nD) : Nat :=
  let c0_i32_1767 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1766 : BitVec 32 := 1#32
  let v1461 : BitVec 32 := Scalar.muli v14 c1_i32_1766
  let v1462 : BitVec 32 := Scalar.addi c0_i32_1767 v1461
  v1462.toNat
def k0_dev31 (d0 : Dev nD) : Nat :=
  let c0_i32_1842 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1841 : BitVec 32 := 1#32
  let v1523 : BitVec 32 := Scalar.muli v25 c1_i32_1841
  let v1524 : BitVec 32 := Scalar.addi c0_i32_1842 v1523
  v1524.toNat
def k0_dev32 (d0 : Dev nD) : Nat :=
  let c0_i32_1910 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1909 : BitVec 32 := 1#32
  let v1576 : BitVec 32 := Scalar.muli v14 c1_i32_1909
  let v1577 : BitVec 32 := Scalar.addi c0_i32_1910 v1576
  v1577.toNat
def k0_dev33 (d0 : Dev nD) : Nat :=
  let c0_i32_1985 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1984 : BitVec 32 := 1#32
  let v1638 : BitVec 32 := Scalar.muli v25 c1_i32_1984
  let v1639 : BitVec 32 := Scalar.addi c0_i32_1985 v1638
  v1639.toNat
def k0_dev34 (d0 : Dev nD) : Nat :=
  let c0_i32_2053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2052 : BitVec 32 := 1#32
  let v1691 : BitVec 32 := Scalar.muli v14 c1_i32_2052
  let v1692 : BitVec 32 := Scalar.addi c0_i32_2053 v1691
  v1692.toNat
def k0_dev35 (d0 : Dev nD) : Nat :=
  let c0_i32_2115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2114 : BitVec 32 := 1#32
  let v1735 : BitVec 32 := Scalar.muli v25 c1_i32_2114
  let v1736 : BitVec 32 := Scalar.addi c0_i32_2115 v1735
  v1736.toNat
def k0_dev36 (d0 : Dev nD) : Nat :=
  let c0_i32_2171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2170 : BitVec 32 := 1#32
  let v1771 : BitVec 32 := Scalar.muli v14 c1_i32_2170
  let v1772 : BitVec 32 := Scalar.addi c0_i32_2171 v1771
  v1772.toNat
def k0_off13 (d0 : Dev nD) (c0_i32_2096 : BitVec 32) (c0_i32_2182 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2095 : BitVec 32 := 4#32
  let v1723 : BitVec 32 := Scalar.addi v2 c4_i32_2095
  let v1724 : BitVec 32 := Scalar.subi v1723 c0_i32_2096
  let c4_i32_2097 : BitVec 32 := 4#32
  let c0_i32_2098 : BitVec 32 := 0#32
  let v1725 : BitVec 1 := Scalar.cmpi .eq c4_i32_2097 c0_i32_2098
  let c1_i32_2099 : BitVec 32 := 1#32
  let v1726 : BitVec 32 := Scalar.select v1725 c1_i32_2099 c4_i32_2097
  let v1727 : BitVec 32 := Scalar.remsi v1724 v1726
  let c0_i32_2101 : BitVec 32 := 0#32
  let v1729 : BitVec 1 := Scalar.cmpi .slt v1727 c0_i32_2101
  let c0_i32_2102 : BitVec 32 := 0#32
  let v1730 : BitVec 1 := Scalar.cmpi .slt v1726 c0_i32_2102
  let v1731 : BitVec 1 := Scalar.xori v1729 v1730
  let c0_i32_2100 : BitVec 32 := 0#32
  let v1728 : BitVec 1 := Scalar.cmpi .ne v1727 c0_i32_2100
  let v1732 : BitVec 1 := Scalar.andi v1731 v1728
  let v1733 : BitVec 32 := Scalar.addi v1727 v1726
  let v1734 : BitVec 32 := Scalar.select v1732 v1733 v1727
  let c1024_i32_2181 : BitVec 32 := 1024#32
  let v1784 : BitVec 32 := Scalar.muli v1734 c1024_i32_2181
  let v1785 : BitVec 32 := Scalar.addi v1784 c0_i32_2182
  let v1786 : Index := Scalar.indexCast v1785
  let c0_2183 : Index := 0#32
  ![v1786.toNat, 0]
def k0_dev37 (d0 : Dev nD) : Nat :=
  let c0_i32_2243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2242 : BitVec 32 := 1#32
  let v1821 : BitVec 32 := Scalar.muli v25 c1_i32_2242
  let v1822 : BitVec 32 := Scalar.addi c0_i32_2243 v1821
  v1822.toNat
def k0_dev38 (d0 : Dev nD) : Nat :=
  let c0_i32_2299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2298 : BitVec 32 := 1#32
  let v1857 : BitVec 32 := Scalar.muli v14 c1_i32_2298
  let v1858 : BitVec 32 := Scalar.addi c0_i32_2299 v1857
  v1858.toNat
def k0_dev39 (d0 : Dev nD) : Nat :=
  let c0_i32_2371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2370 : BitVec 32 := 1#32
  let v1907 : BitVec 32 := Scalar.muli v25 c1_i32_2370
  let v1908 : BitVec 32 := Scalar.addi c0_i32_2371 v1907
  v1908.toNat
def k0_dev40 (d0 : Dev nD) : Nat :=
  let c0_i32_2427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2426 : BitVec 32 := 1#32
  let v1943 : BitVec 32 := Scalar.muli v14 c1_i32_2426
  let v1944 : BitVec 32 := Scalar.addi c0_i32_2427 v1943
  v1944.toNat
def k0_dev41 (d0 : Dev nD) : Nat :=
  let c0_i32_2499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2498 : BitVec 32 := 1#32
  let v1993 : BitVec 32 := Scalar.muli v25 c1_i32_2498
  let v1994 : BitVec 32 := Scalar.addi c0_i32_2499 v1993
  v1994.toNat
def k0_dev42 (d0 : Dev nD) : Nat :=
  let c0_i32_2555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2554 : BitVec 32 := 1#32
  let v2029 : BitVec 32 := Scalar.muli v14 c1_i32_2554
  let v2030 : BitVec 32 := Scalar.addi c0_i32_2555 v2029
  v2030.toNat
def k0_dev43 (d0 : Dev nD) : Nat :=
  let c0_i32_2629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2628 : BitVec 32 := 1#32
  let v2079 : BitVec 32 := Scalar.muli v25 c1_i32_2628
  let v2080 : BitVec 32 := Scalar.addi c0_i32_2629 v2079
  v2080.toNat
def k0_dev44 (d0 : Dev nD) : Nat :=
  let c0_i32_2687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2686 : BitVec 32 := 1#32
  let v2115 : BitVec 32 := Scalar.muli v14 c1_i32_2686
  let v2116 : BitVec 32 := Scalar.addi c0_i32_2687 v2115
  v2116.toNat
def k0_dev45 (d0 : Dev nD) : Nat :=
  let c0_i32_2761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2760 : BitVec 32 := 1#32
  let v2165 : BitVec 32 := Scalar.muli v25 c1_i32_2760
  let v2166 : BitVec 32 := Scalar.addi c0_i32_2761 v2165
  v2166.toNat
def k0_dev46 (d0 : Dev nD) : Nat :=
  let c0_i32_2819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2818 : BitVec 32 := 1#32
  let v2201 : BitVec 32 := Scalar.muli v14 c1_i32_2818
  let v2202 : BitVec 32 := Scalar.addi c0_i32_2819 v2201
  v2202.toNat
def k0_dev47 (d0 : Dev nD) : Nat :=
  let c0_i32_2893 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2892 : BitVec 32 := 1#32
  let v2251 : BitVec 32 := Scalar.muli v25 c1_i32_2892
  let v2252 : BitVec 32 := Scalar.addi c0_i32_2893 v2251
  v2252.toNat
def k0_dev48 (d0 : Dev nD) : Nat :=
  let c0_i32_2951 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2950 : BitVec 32 := 1#32
  let v2287 : BitVec 32 := Scalar.muli v14 c1_i32_2950
  let v2288 : BitVec 32 := Scalar.addi c0_i32_2951 v2287
  v2288.toNat
def k0_dev49 (d0 : Dev nD) : Nat :=
  let c0_i32_3025 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3024 : BitVec 32 := 1#32
  let v2337 : BitVec 32 := Scalar.muli v25 c1_i32_3024
  let v2338 : BitVec 32 := Scalar.addi c0_i32_3025 v2337
  v2338.toNat
def k0_dev50 (d0 : Dev nD) : Nat :=
  let c0_i32_3083 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3082 : BitVec 32 := 1#32
  let v2373 : BitVec 32 := Scalar.muli v14 c1_i32_3082
  let v2374 : BitVec 32 := Scalar.addi c0_i32_3083 v2373
  v2374.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Roll.lean ====
/- The kernel's body, written once per kind of step.

   The printed body is straight-line text: every hop, every sub-chunk and both directions are
   unrolled. Here each kind of step is one definition over the direction `d`, the slots and the
   sub-chunk `j`, in continuation-passing form, and `roll` chains them in the printed order.
   `body_eq_roll` says the printed body is that chain. -/
module

public import proofs.«01_k».proof.Proof.Gen.KernelIdeal.Points
public import proofs.«01_k».proof.Proof.Gen.KernelIdeal.Skeleton
public import proofs.«01_k».proof.Proof.Gen.KernelIdeal.Launch

@[expose] public section

noncomputable section

namespace Cert.KernelIdeal.Roll

open Idealize.ShloMosaic Idealize.ShloMosaic.TcCoe
open Idealize.SL Idealize.SL.Sem
open Cert.KernelIdeal.Gen

variable {F : FTy → Type} [FloatOps F]

/-! ## Buffers, views and cells -/

abbrev mX : Memref sig .tc .hbm S4096x1024 .f32 := Memref.whole main_arg0
abbrev mW : Memref sig .tc .hbm S1024x2048 .f32 := Memref.whole main_arg1
abbrev mA : Memref sig .tc .smem S1 .f32 := Memref.whole cc0_stg0_0
abbrev mB : Memref sig .tc .smem S1 .f32 := Memref.whole cc0_stg1_0
abbrev mO : Memref sig .tc .vmem S4096x2048 .f32 := Memref.whole cc0_stg2_0
abbrev mS : Memref sig .tc .vmem S2x4x256x1024 .bf16 := Memref.whole cc0_scratch0
abbrev mR : Memref sig .tc .vmem S2x3x4x256x1024 .bf16 := Memref.whole cc0_scratch1
abbrev mXq : Memref sig .tc .vmem S4096x1024 .fp8e4m3 := Memref.whole cc0_scratch4
abbrev mWq : Memref sig .tc .vmem S1024x2048 .fp8e4m3 := Memref.whole cc0_scratch5
abbrev mT : Memref sig .tc .vmem S2x1024x1024 .f32 := Memref.whole cc0_scratch6

theorem sInb : ∀ (d : Fin 2) (j : Fin 4), ∀ a, (![d.val, j.val, 0, 0] : Fin 4 → Nat) a + S1x1x256x1024.size a ≤ S2x4x256x1024.size a := by decide
theorem rInb : ∀ (d : Fin 2) (s : Fin 3) (j : Fin 4), ∀ a, (![d.val, s.val, j.val, 0, 0] : Fin 5 → Nat) a + S1x1x1x256x1024.size a ≤ S2x3x4x256x1024.size a := by decide
theorem tInb : ∀ (b : Fin 2), ∀ a, (![b.val, 0, 0] : Fin 3 → Nat) a + S1x1024x1024.size a ≤ S2x1024x1024.size a := by decide
theorem wInb : ∀ (d : Fin 2), ∀ a, (![0, 1024 * d.val] : Fin 2 → Nat) a + S1024x1024.size a ≤ S1024x2048.size a := by decide
theorem ssInb : ∀ (d : Fin 2) (j : Fin 4), ∀ a, (![d.val, j.val] : Fin 2 → Nat) a + S1x1.size a ≤ S2x4.size a := by decide
theorem rsInb : ∀ (d : Fin 2) (s : Fin 3) (j : Fin 4), ∀ a, (![d.val, s.val, j.val] : Fin 3 → Nat) a + S1x1x1.size a ≤ S2x3x4.size a := by decide
theorem tsInb : ∀ (b : Fin 2), ∀ a, (![b.val] : Fin 1 → Nat) a + S1.size a ≤ S2.size a := by decide

/-- The rectangle of send buffer `(d, j)`. -/
abbrev sRect (d : Fin 2) (j : Fin 4) : Rect S2x4x256x1024 := Rect.unit (s := S2x4x256x1024) ![d.val, j.val, 0, 0] S1x1x256x1024.size (sInb d j)
/-- The rectangle of receive slot `(d, s, j)`. -/
abbrev rRect (d : Fin 2) (s : Fin 3) (j : Fin 4) : Rect S2x3x4x256x1024 := Rect.unit (s := S2x3x4x256x1024) ![d.val, s.val, j.val, 0, 0] S1x1x1x256x1024.size (rInb d s j)
/-- The rectangle of staging slot `b`. -/
abbrev tRect (b : Fin 2) : Rect S2x1024x1024 := Rect.unit (s := S2x1024x1024) ![b.val, 0, 0] S1x1024x1024.size (tInb b)
/-- The columns of half `d` of a weight buffer. -/
abbrev wRect (d : Fin 2) : Rect S1024x2048 := Rect.unit (s := S1024x2048) ![0, 1024 * d.val] S1024x1024.size (wInb d)

theorem sPacked : ∀ (d : Fin 2) (j : Fin 4), (sRect d j).PackedRows (EltTy.packing .bf16) := by decide
theorem sWords : ∀ (d : Fin 2) (j : Fin 4), (sRect d j).WholeWords (EltTy.packing .bf16) := by decide
theorem rWords : ∀ (d : Fin 2) (s : Fin 3) (j : Fin 4), (rRect d s j).WholeWords (EltTy.packing .bf16) := by decide
theorem wPacked : ∀ (d : Fin 2), (wRect d).PackedRows (EltTy.packing .fp8e4m3) := by decide

/-- Send buffer `(d, j)` as a transfer names it. -/
abbrev sV (d : Fin 2) (j : Fin 4) : Memref sig .tc .vmem S256x1024 .bf16 :=
  (mS.slice (sRect d j) (fun _ => rfl)).squeeze S256x1024 squeezes_S1x1x256x1024_S256x1024
/-- Receive slot `(d, s, j)` as a transfer names it. -/
abbrev rV (d : Fin 2) (s : Fin 3) (j : Fin 4) : Memref sig .tc .vmem S256x1024 .bf16 :=
  (mR.slice (rRect d s j) (fun _ => rfl)).squeeze S256x1024 squeezes_S1x1x1x256x1024_S256x1024
/-- Staging slot `b` as a transfer names it. -/
abbrev tV (b : Fin 2) : Memref sig .tc .vmem S1024x1024 .f32 :=
  (mT.slice (tRect b) (fun _ => rfl)).squeeze S1024x1024 squeezes_S1x1024x1024_S1024x1024
/-- Half `d` of the weight block. -/
abbrev wV (d : Fin 2) : Memref sig .tc .hbm S1024x1024 .f32 := mW.slice (wRect d) (fun _ => rfl)

theorem sWE (d : Fin 2) (j : Fin 4) : (sV d j).view.WordExact :=
  ((Memref.isWhole_whole cc0_scratch0).wordExact_slice rfl _ (sWords d j)).reshape _ _
theorem rWE (d : Fin 2) (s : Fin 3) (j : Fin 4) : (rV d s j).view.WordExact :=
  ((Memref.isWhole_whole cc0_scratch1).wordExact_slice rfl _ (rWords d s j)).reshape _ _

/-- The cell a send from `(d, j)` completes on. -/
abbrev sSem (d : Fin 2) (j : Fin 4) : DmaSem sig :=
  ((cc0_scratch2.slice (Rect.unit (s := S2x4) ![d.val, j.val] S1x1.size (ssInb d j))).squeeze S_ squeezes_S1x1_S_).sem
/-- The cell a landing in slot `(d, s, j)` completes on. -/
abbrev rSem (d : Fin 2) (s : Fin 3) (j : Fin 4) : DmaSem sig :=
  ((cc0_scratch3.slice (Rect.unit (s := S2x3x4) ![d.val, s.val, j.val] S1x1x1.size (rsInb d s j))).squeeze S_ squeezes_S1x1x1_S_).sem
/-- The cell a staging copy completes on. -/
abbrev tSem (b : Fin 2) : DmaSem sig :=
  ((cc0_scratch7.slice (Rect.unit (s := S2) ![b.val] S1.size (tsInb b))).squeeze S_ squeezes_S1_S_).sem
/-- The barrier cell. -/
abbrev bSem : Sem sig := (SemArray.scalar (sig.barrier 0 rfl) : Sems sig S_).sem

/-- Offsets of a 256-row block of the result, in range. -/
structure SubOff where
  o : Fin 2 → Nat
  h : ∀ a, o a + S256x1024.size a ≤ S4096x2048.size a
/-- Offsets of a 1024-row block of the result, in range. -/
structure BlkOff where
  o : Fin 2 → Nat
  h : ∀ a, o a + S1024x1024.size a ≤ S4096x2048.size a
/-- Offsets of a 1024-row block of the activations, in range. -/
structure RowOff where
  o : Fin 2 → Nat
  h : ∀ a, o a + S1024x1024.size a ≤ S4096x1024.size a

abbrev SubOff.rect (p : SubOff) : Rect S4096x2048 := Rect.unit (s := S4096x2048) p.o S256x1024.size p.h
abbrev BlkOff.rect (p : BlkOff) : Rect S4096x2048 := Rect.unit (s := S4096x2048) p.o S1024x1024.size p.h
abbrev RowOff.rect (p : RowOff) : Rect S4096x1024 := Rect.unit (s := S4096x1024) p.o S1024x1024.size p.h
/-- A block of rows of the activations. -/
abbrev xV (p : RowOff) : Memref sig .tc .hbm S1024x1024 .f32 := mX.slice p.rect (fun _ => rfl)

/-! ## What the steps compute -/

/-- A staged block, cast. -/
def castP (v : Vec F S1x1024x1024 .f32) : FVec F S1024x1024 .fp8e4m3 :=
  shapeCast S1024x1024 (truncf .fp8e4m3 (shapeCast S1024x1024 v shapeCasts_S1x1024x1024_S1024x1024) bitsLt_fp8e4m3_f32) shapeCasts_S1024x1024_S1024x1024
/-- The product of two blocks. -/
def dotP (a b : Vec F S1024x1024 .fp8e4m3) : FVec F S1024x1024 .f32 :=
  matmul dot_S1024x1024_S1024x1024_S1024x1024_1_0_0_1_n_n none a b (constant S1024x1024 .f32 0x00000000#32)
/-- A sub-block rounded for transport. -/
def sendP (v : Vec F S256x1024 .f32) : FVec F S1x1x256x1024 .bf16 :=
  shapeCast S1x1x256x1024 (truncf .bf16 (shapeCast S256x1024 v shapeCasts_S256x1024_S256x1024) bitsLt_bf16_f32) shapeCasts_S256x1024_S1x1x256x1024
/-- A received sub-block, widened. -/
def extP (w : Vec F S1x1x1x256x1024 .bf16) : FVec F S256x1024 .f32 :=
  extf .f32 (shapeCast S256x1024 w shapeCasts_S1x1x1x256x1024_S256x1024) bitsLt_bf16_f32
/-- A sub-block with a received one added. -/
def sumP (v : Vec F S256x1024 .f32) (w : Vec F S1x1x1x256x1024 .bf16) : FVec F S256x1024 .f32 :=
  addf (shapeCast S256x1024 v shapeCasts_S256x1024_S256x1024) (extP w)
/-- A value rounded for transport, in a send buffer's shape. -/
def packP (v : FVec F S256x1024 .f32) : FVec F S1x1x256x1024 .bf16 :=
  shapeCast S1x1x256x1024 (truncf .bf16 v bitsLt_bf16_f32) shapeCasts_S256x1024_S1x1x256x1024
/-- The finished sub-block: the sum, scaled, its negative part dropped. -/
def finP (sc : F .f32) (v : Vec F S256x1024 .f32) (w : Vec F S1x1x1x256x1024 .bf16) : FVec F S256x1024 .f32 :=
  maximumf (mulf (sumP v w) (broadcast S256x1024 sc)) (broadcast S256x1024 (Scalar.ofBits .f32 0x00000000#32))

/-! ## The kinds of step -/

abbrev P (F : FTy → Type) := Prog (TpuEff nD τ sig (Elt F) Λ₀ .tc) PUnit

/-- Start a staging copy into slot `b`. -/
def startT (src : Memref sig .tc .hbm S1024x1024 .f32) (hs : src.view.WordExact) (b : Fin 2) (k : P F) : P F :=
  .op (.enqueueDma src (.here (tV b)) (.dma (tSem b)) hs ((View.wordExact_bits rfl).reshape _ _) ⟨Or.inl rfl, trivial⟩) fun _ => k
/-- Wait for it. -/
def waitT (src : Memref sig .tc .hbm S1024x1024 .f32) (hs : src.view.WordExact) (b : Fin 2) (k : P F) : P F :=
  .op (.waitDma2 (tSem b) src (tV b) hs ((View.wordExact_bits rfl).reshape _ _)) fun _ => k
/-- Cast the staged block into half `d` of the weights' cache. -/
def castW (b : Fin 2) (d : Fin 2) (k : P F) : P F :=
  .op (.load mT (tRect b).toLoadRect (View.loadsAt_vmem h_S1x1024x1024)) fun v =>
  .op (.load mWq (wRect d).toLoadRect (View.loadsAt_vmem h_S1024x1024)) fun _ =>
  .op (.store mWq (wRect d) (castP v) Finset.univ (View.stores_vmem h_S1024x1024 ((Memref.isWhole_whole cc0_scratch5).storeExact_slice rfl _ (wPacked d)) (fun _ => rfl)) (.inl rfl)) fun _ => k
/-- Cast the staged block into rows `p` of the activations' cache. -/
def castX (b : Fin 2) (p : RowOff) (hp : p.rect.PackedRows (EltTy.packing .fp8e4m3)) (k : P F) : P F :=
  .op (.load mT (tRect b).toLoadRect (View.loadsAt_vmem h_S1x1024x1024)) fun v =>
  .op (.load mXq p.rect.toLoadRect (View.loadsAt_vmem h_S1024x1024)) fun _ =>
  .op (.store mXq p.rect (castP v) Finset.univ (View.stores_vmem h_S1024x1024 ((Memref.isWhole_whole cc0_scratch4).storeExact_slice rfl _ hp) (fun _ => rfl)) (.inl rfl)) fun _ => k
/-- Multiply rows `p` by half `d` of the weights into block `q` of the result. -/
def dotS (p : RowOff) (d : Fin 2) (q : BlkOff) (k : P F) : P F :=
  .op (.load mXq p.rect.toLoadRect (View.loadsAt_vmem h_S1024x1024)) fun a =>
  .op (.load mWq (wRect d).toLoadRect (View.loadsAt_vmem h_S1024x1024)) fun b =>
  .op (.load mO q.rect.toLoadRect (View.loadsAt_vmem h_S1024x1024)) fun _ =>
  .op (.store mO q.rect (dotP a b) Finset.univ (View.stores_vmem_bits_univ h_S1024x1024 rfl) (.inl rfl)) fun _ => k
/-- Fill send buffer `(d, j)`. -/
def fill (d : Fin 2) (j : Fin 4) (v : Vec F S1x1x256x1024 .bf16) (k : P F) : P F :=
  .op (.load mS (sRect d j).toLoadRect (View.loadsAt_vmem h_S1x1x256x1024)) fun _ =>
  .op (.store mS (sRect d j) v Finset.univ (View.stores_vmem h_S1x1x256x1024 ((Memref.isWhole_whole cc0_scratch0).storeExact_slice rfl _ (sPacked d j)) (fun _ => rfl)) (.inl rfl)) fun _ => k
/-- Send `src` to slot `(d, s, j)` of device `n`. -/
def send (src : Memref sig .tc .vmem S256x1024 .bf16) (hs : src.view.WordExact) (d : Fin 2) (s : Fin 3) (j : Fin 4) (n : Dev nD) (k : P F) : P F :=
  .op (.enqueueDma src (.remote (Dev.tc n) (rV d s j) (.dma (sSem d j))) (.dma (rSem d s j)) hs (rWE d s j) ⟨⟨rfl, Or.inl rfl⟩, trivial⟩) fun _ => k
/-- Wait for the landing in slot `(d, s, j)`. -/
def waitR (src : Memref sig .tc .vmem S256x1024 .bf16) (hs : src.view.WordExact) (d : Fin 2) (s : Fin 3) (j : Fin 4) (k : P F) : P F :=
  .op (.waitDma2 (rSem d s j) src (rV d s j) hs (rWE d s j)) fun _ => k
/-- Wait until the send from `src` no longer reads it. -/
def waitS (src : Memref sig .tc .vmem S256x1024 .bf16) (hs : src.view.WordExact) (d : Fin 2) (s : Fin 3) (j : Fin 4) (k : P F) : P F :=
  .op (.waitDma2 (sSem d j) (rV d s j) src (rWE d s j) hs) fun _ => k
/-- Read a sub-block of the result. -/
def readO (q : SubOff) (k : Vec F S256x1024 .f32 → P F) : P F :=
  .op (.load mO q.rect.toLoadRect (View.loadsAt_vmem h_S256x1024)) k
/-- Write a sub-block of the result. -/
def putO (q : SubOff) (y : Vec F S256x1024 .f32) (k : P F) : P F :=
  .op (.load mO q.rect.toLoadRect (View.loadsAt_vmem h_S256x1024)) fun _ =>
  .op (.store mO q.rect y Finset.univ (View.stores_vmem_bits_univ h_S256x1024 rfl) (.inl rfl)) fun _ => k
/-- Read receive slot `(d, s, j)`. -/
def readR (d : Fin 2) (s : Fin 3) (j : Fin 4) (k : Vec F S1x1x1x256x1024 .bf16 → P F) : P F :=
  .op (.load mR (rRect d s j).toLoadRect (View.loadsAt_vmem h_S1x1x1x256x1024)) k

/-! ## The hops -/

/-- One sub-chunk after the other. -/
def four (f : Fin 4 → P F → P F) (k : P F) : P F := f 0 (f 1 (f 2 (f 3 k)))

/-- Hop 0, one direction. -/
def step0 (d : Fin 2) (j : Fin 4) (q : SubOff) (n : Dev nD) (k : P F) : P F :=
  readO q fun v => fill d j (sendP v) (send (sV d j) (sWE d j) d 0 j n k)
/-- Hops 1 and 2, one direction: from slot `s` on to slot `t`. -/
def stepA (d : Fin 2) (s t : Fin 3) (j : Fin 4) (q : SubOff) (n : Dev nD) (k : P F) : P F :=
  waitR (sV d j) (sWE d j) d s j <| waitS (sV d j) (sWE d j) d s j <|
  readO q fun v => readR d s j fun w => fill d j (packP (sumP v w)) (send (sV d j) (sWE d j) d t j n k)
/-- Hop 3, one direction. -/
def stepY (sc : F .f32) (d : Fin 2) (j : Fin 4) (q : SubOff) (n : Dev nD) (k : Vec F S256x1024 .f32 → P F) : P F :=
  waitR (sV d j) (sWE d j) d 2 j <| waitS (sV d j) (sWE d j) d 2 j <|
  readO q fun v => readR d 2 j fun w => fill d j (packP (finP sc v w)) (send (sV d j) (sWE d j) d 0 j n (k (finP sc v w)))
/-- Hops 4 and 5, one direction: what was sent from `src` is done, slot `s` goes on to slot `t`. -/
def stepF (src : Memref sig .tc .vmem S256x1024 .bf16) (hs : src.view.WordExact) (d : Fin 2) (s t : Fin 3) (j : Fin 4) (n : Dev nD) (k : P F) : P F :=
  waitR src hs d s j <| waitS src hs d s j <| send (rV d s j) (rWE d s j) d t j n k
/-- A received sub-block stored in the result. -/
def outR (d : Fin 2) (s : Fin 3) (j : Fin 4) (q : SubOff) (k : P F) : P F :=
  readR d s j fun w => putO q (extP w) k
/-- The end of one direction. -/
def stepZ (d : Fin 2) (j : Fin 4) (q : SubOff) (k : P F) : P F :=
  waitR (rV d 1 j) (rWE d 1 j) d 2 j <| outR d 2 j q <| waitS (rV d 1 j) (rWE d 1 j) d 2 j k

/-! ## Where each step works -/

abbrev lft (c : Dev nD) : Dev nD := ⟨k0_dev1 c, k0_dev1_lt c⟩
abbrev rgt (c : Dev nD) : Dev nD := ⟨k0_dev2 c, k0_dev2_lt c⟩
abbrev xo1 (c : Dev nD) : RowOff := ⟨k0_off1 c, k0_off1_inb c⟩
abbrev xo2 (c : Dev nD) : RowOff := ⟨k0_off2 c, k0_off2_inb c⟩
abbrev xo7 (c : Dev nD) (r : Fin 3) : RowOff := ⟨k0_off7 c (BitVec.ofNat 32 (1 + r.val)), k0_off7_inb c r⟩
abbrev xo8 (c : Dev nD) (r : Fin 3) : RowOff := ⟨k0_off8 c (BitVec.ofNat 32 (1 + r.val)), k0_off8_inb c r⟩
abbrev bo3 (c : Dev nD) : BlkOff := ⟨k0_off3 c, k0_off3_inb c⟩
abbrev bo5 (c : Dev nD) : BlkOff := ⟨k0_off5 c, k0_off5_inb c⟩
abbrev bo9 (c : Dev nD) (r : Fin 3) : BlkOff := ⟨k0_off9 c (BitVec.ofNat 32 (1 + r.val)), k0_off9_inb c r⟩
abbrev bo10 (c : Dev nD) (r : Fin 3) : BlkOff := ⟨k0_off10 c (BitVec.ofNat 32 (1 + r.val)), k0_off10_inb c r⟩
abbrev so4 (c : Dev nD) (j : Fin 4) : SubOff := ⟨k0_off4 c (BitVec.ofNat 32 (256 * j.val)), k0_off4_inb c j⟩
abbrev so6 (c : Dev nD) (j : Fin 4) : SubOff := ⟨k0_off6 c (BitVec.ofNat 32 (256 * j.val)), k0_off6_inb c j⟩
abbrev so11 (c : Dev nD) (r : Fin 3) (j : Fin 4) : SubOff := ⟨k0_off11 c (BitVec.ofNat 32 r.val) (BitVec.ofNat 32 (256 * j.val)), k0_off11_inb c r j⟩
abbrev so12 (c : Dev nD) (m : Fin 2) (r : Fin 3) (j : Fin 4) : SubOff := ⟨k0_off12 c (BitVec.ofNat 32 (1 + 3 * m.val)) (BitVec.ofNat 32 r.val) (BitVec.ofNat 32 (256 * j.val)), k0_off12_inb c m r j⟩
abbrev so13 (c : Dev nD) (r : Fin 3) (j : Fin 4) : SubOff := ⟨k0_off13 c (BitVec.ofNat 32 r.val) (BitVec.ofNat 32 (256 * j.val)), k0_off13_inb c r j⟩

theorem wWE (d : Fin 2) : (wV d).view.WordExact := View.wordExact_bits rfl
theorem xWE (p : RowOff) : (xV p).view.WordExact := View.wordExact_bits rfl

/-- Stage rows `p` of the activations through slot `b` into rows `p'` of their cache. -/
def chunkX (b : Fin 2) (p p' : RowOff) (hp : p'.rect.PackedRows (EltTy.packing .fp8e4m3)) (k : P F) : P F :=
  startT (xV p) (xWE p) b <| waitT (xV p) (xWE p) b <| castX b p' hp k

/-- Before the first send: both first blocks cast, the first product formed. -/
def open0 (c : Dev nD) (k : P F) : P F :=
  startT (wV 0) (wWE 0) 0 <| startT (xV (xo1 c)) (xWE (xo1 c)) 1 <|
  waitT (wV 0) (wWE 0) 0 <| castW 0 0 <|
  waitT (xV (xo1 c)) (xWE (xo1 c)) 1 <| castX 1 (xo2 c) (k0_off2_packedfp8e4m3 c) <|
  dotS (xo2 c) 0 (bo3 c) k
/-- The other half of the weights, and the other half of the first product. -/
def open1 (c : Dev nD) (k : P F) : P F :=
  startT (wV 1) (wWE 1) 1 <| waitT (wV 1) (wWE 1) 1 <| castW 1 1 <| dotS (xo2 c) 1 (bo5 c) k

def hop0 (c : Dev nD) (k : P F) : P F :=
  step0 0 0 (so4 c 0) (rgt c) <| open1 c <| step0 1 0 (so6 c 0) (lft c) <|
  step0 0 1 (so4 c 1) (rgt c) <| step0 1 1 (so6 c 1) (lft c) <|
  step0 0 2 (so4 c 2) (rgt c) <| step0 1 2 (so6 c 2) (lft c) <|
  step0 0 3 (so4 c 3) (rgt c) <| step0 1 3 (so6 c 3) (lft c) k
def dots0 (c : Dev nD) (k : P F) : P F :=
  chunkX 0 (xo7 c 2) (xo8 c 2) (k0_off8_packedfp8e4m3 c 2) <| dotS (xo8 c 2) 0 (bo9 c 2) <|
  chunkX 1 (xo7 c 0) (xo8 c 0) (k0_off8_packedfp8e4m3 c 0) <| dotS (xo8 c 0) 1 (bo10 c 0) k
def dots1 (c : Dev nD) (k : P F) : P F :=
  chunkX 0 (xo7 c 1) (xo8 c 1) (k0_off8_packedfp8e4m3 c 1) <| dotS (xo8 c 1) 0 (bo9 c 1) <|
  dotS (xo8 c 1) 1 (bo10 c 1) k
def dots2 (c : Dev nD) (k : P F) : P F :=
  dotS (xo8 c 0) 0 (bo9 c 0) <| dotS (xo8 c 2) 1 (bo10 c 2) k
/-- Hops 1 and 2: slot `s` on to slot `t`. -/
def hopA (s t : Fin 3) (c : Dev nD) : P F → P F :=
  four fun j k => stepA 0 s t j (so11 c s j) (rgt c) <| stepA 1 s t j (so12 c 0 s j) (lft c) k
def hop3 (sc : F .f32) (c : Dev nD) : P F → P F :=
  four fun j k => stepY sc 0 j (so11 c 2 j) (rgt c) fun y => stepY sc 1 j (so12 c 0 2 j) (lft c) fun y' =>
    putO (so11 c 2 j) y <| putO (so12 c 0 2 j) y' k
def hop4 (c : Dev nD) : P F → P F :=
  four fun j k => stepF (sV 0 j) (sWE 0 j) 0 0 1 j (rgt c) <| stepF (sV 1 j) (sWE 1 j) 1 0 1 j (lft c) <|
    outR 0 0 j (so13 c 0 j) <| outR 1 0 j (so12 c 1 0 j) k
def hop5 (c : Dev nD) : P F → P F :=
  four fun j k => stepF (rV 0 0 j) (rWE 0 0 j) 0 1 2 j (rgt c) <| stepF (rV 1 0 j) (rWE 1 0 j) 1 1 2 j (lft c) <|
    outR 0 1 j (so13 c 1 j) <| outR 1 1 j (so12 c 1 1 j) k
def hopZ (c : Dev nD) : P F → P F :=
  four fun j k => stepZ 0 j (so13 c 2 j) <| stepZ 1 j (so12 c 1 2 j) k

/-- After the barrier. -/
def rest (c : Dev nD) (sc : F .f32) : P F :=
  open0 c <| hop0 c <| dots0 c <| hopA 0 1 c <| dots1 c <| hopA 1 2 c <| dots2 c <|
  hop3 sc c <| hop4 c <| hop5 c <| hopZ c <| .ret ⟨⟩

/-- The whole body. -/
def roll : P F := do
  let c : Dev nD ← Prog.lift .deviceId
  let a : Elt F .f32 ← smemLoad mA (Rect.unit (s := S1) ![0] S1.size inb_S1_S1_0) numel1_S1 rfl
  let b : Elt F .f32 ← smemLoad mB (Rect.unit (s := S1) ![0] S1.size inb_S1_S1_0) numel1_S1 rfl
  semSignalWord (lft c) bSem 1#32
  semSignalWord (rgt c) bSem 1#32
  semWaitWord bSem 2#32
  rest c (Scalar.mulf a b)

set_option maxRecDepth 65536 in
set_option maxHeartbeats 4000000 in
theorem body_eq_roll (t : Fin cfg0.N) : bodyAt0 (F := F) t = roll := by
  have ht : t = t0_0 := fin_N0 t
  subst ht
  rfl

end Cert.KernelIdeal.Roll

end
-- ==== Proof.Proto.lean ====
/- The protocol: places on the ring, what each device computes and sends, and the schedule of
   rounds of every semaphore cell with the contents each landing hands over. -/
module

public import proofs.«01_k».proof.Proof.Roll
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.Tactic
public import Idealize.SL.BI.BigOpNat

@[expose] public section

noncomputable section

namespace Cert.KernelIdeal.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UB : Type := URounds (GSem nD τ sig) (Fin 2)
abbrev UU : Type := UR sig nD τ × UB

local notation "𝕄" => MT nD τ sig Bool (Elt F) ℕ UU ℕ

abbrev EP : Emb (UR sig nD τ) (MT nD τ sig Bool (Elt F) ℕ UU ℕ) := embL
abbrev ER : Emb UB (MT nD τ sig Bool (Elt F) ℕ UU ℕ) := embR

/-! ## The ring -/

/-- The device direction `d` sends to: the next one for 0, the one before for 1. -/
def nbr (d : Fin 2) (c : Dev nD) : Dev nD := ⟨(c.val + 1 + 2 * d.val) % 4, Nat.mod_lt _ (by decide)⟩
/-- The device direction `d` receives from. -/
def src (d : Fin 2) (c : Dev nD) : Dev nD := ⟨(c.val + 3 + 2 * d.val) % 4, Nat.mod_lt _ (by decide)⟩
/-- The block of rows device `c` handles `e` hops on in direction `d`. -/
def chunk (c : Dev nD) (d : Fin 2) (e : ℕ) : Fin 4 := ⟨(c.val + (3 + 2 * d.val) * e) % 4, Nat.mod_lt _ (by decide)⟩

theorem src_nbr (d : Fin 2) (c : Dev nD) : src d (nbr d c) = c := by revert d c; decide
theorem nbr_src (d : Fin 2) (c : Dev nD) : nbr d (src d c) = c := by revert d c; decide
theorem rgt_eq (c : Dev nD) : rgt c = nbr 0 c := by revert c; decide +kernel
theorem lft_eq (c : Dev nD) : lft c = nbr 1 c := by revert c; decide +kernel
theorem src0 (c : Dev nD) : src 0 c = nbr 1 c := by revert c; decide
theorem src1 (c : Dev nD) : src 1 c = nbr 0 c := by revert c; decide

/-! ## Places in the buffers -/

theorem rowInb : ∀ (k : Fin 4), ∀ a, (![1024 * k.val, 0] : Fin 2 → Nat) a + S1024x1024.size a ≤ S4096x1024.size a := by decide
theorem blkInb : ∀ (k : Fin 4) (d : Fin 2), ∀ a, (![1024 * k.val, 1024 * d.val] : Fin 2 → Nat) a + S1024x1024.size a ≤ S4096x2048.size a := by decide
theorem subInb : ∀ (k : Fin 4) (j : Fin 4) (d : Fin 2), ∀ a, (![1024 * k.val + 256 * j.val, 1024 * d.val] : Fin 2 → Nat) a + S256x1024.size a ≤ S4096x2048.size a := by decide
theorem inInb : ∀ (j : Fin 4), ∀ a, (![256 * j.val, 0] : Fin 2 → Nat) a + S256x1024.size a ≤ S1024x1024.size a := by decide

abbrev rowOff (k : Fin 4) : RowOff := ⟨![1024 * k.val, 0], rowInb k⟩
abbrev blkOff (k : Fin 4) (d : Fin 2) : BlkOff := ⟨![1024 * k.val, 1024 * d.val], blkInb k d⟩
abbrev subOff (k : Fin 4) (j : Fin 4) (d : Fin 2) : SubOff := ⟨![1024 * k.val + 256 * j.val, 1024 * d.val], subInb k j d⟩

theorem RowOff.ext {p q : RowOff} (h : p.o = q.o) : p = q := by cases p; cases q; cases h; rfl
theorem BlkOff.ext {p q : BlkOff} (h : p.o = q.o) : p = q := by cases p; cases q; cases h; rfl
theorem SubOff.ext {p q : SubOff} (h : p.o = q.o) : p = q := by cases p; cases q; cases h; rfl

theorem xo1_eq (c : Dev nD) : xo1 c = rowOff (chunk c 1 0) := RowOff.ext (by revert c; decide +kernel)
theorem xo2_eq (c : Dev nD) : xo2 c = rowOff (chunk c 1 0) := RowOff.ext (by revert c; decide +kernel)
theorem xo7_eq (c : Dev nD) (r : Fin 3) : xo7 c r = rowOff (chunk c 1 (1 + r.val)) := RowOff.ext (by revert c r; decide +kernel)
theorem xo8_eq (c : Dev nD) (r : Fin 3) : xo8 c r = rowOff (chunk c 1 (1 + r.val)) := RowOff.ext (by revert c r; decide +kernel)
theorem bo3_eq (c : Dev nD) : bo3 c = blkOff (chunk c 0 0) 0 := BlkOff.ext (by revert c; decide +kernel)
theorem bo5_eq (c : Dev nD) : bo5 c = blkOff (chunk c 1 0) 1 := BlkOff.ext (by revert c; decide +kernel)
theorem bo9_eq (c : Dev nD) (r : Fin 3) : bo9 c r = blkOff (chunk c 1 (1 + r.val)) 0 := BlkOff.ext (by revert c r; decide +kernel)
theorem bo10_eq (c : Dev nD) (r : Fin 3) : bo10 c r = blkOff (chunk c 1 (1 + r.val)) 1 := BlkOff.ext (by revert c r; decide +kernel)
theorem so4_eq (c : Dev nD) (j : Fin 4) : so4 c j = subOff (chunk c 0 0) j 0 := SubOff.ext (by revert c j; decide +kernel)
theorem so6_eq (c : Dev nD) (j : Fin 4) : so6 c j = subOff (chunk c 1 0) j 1 := SubOff.ext (by revert c j; decide +kernel)
theorem so11_eq (c : Dev nD) (r : Fin 3) (j : Fin 4) : so11 c r j = subOff (chunk c 0 (1 + r.val)) j 0 := SubOff.ext (by revert c r j; decide +kernel)
theorem so12_eq (c : Dev nD) (r : Fin 3) (j : Fin 4) : so12 c 0 r j = subOff (chunk c 1 (1 + r.val)) j 1 := SubOff.ext (by revert c r j; decide +kernel)
theorem so12_eq' (c : Dev nD) (r : Fin 3) (j : Fin 4) : so12 c 1 r j = subOff (chunk c 1 r.val) j 1 := SubOff.ext (by revert c r j; decide +kernel)
theorem so13_eq (c : Dev nD) (r : Fin 3) (j : Fin 4) : so13 c r j = subOff (chunk c 0 r.val) j 0 := SubOff.ext (by revert c r j; decide +kernel)

/-! ## What each device computes -/

variable (m : (ℓ : Loc nD τ sig) → Buf (Elt F) ℓ)

/-- A block of rows of the activations on device `c`. -/
def xB (c : Dev nD) (k : Fin 4) : S1024x1024.Idx → Elt F .f32 :=
  (xV (rowOff k)).view.read (Elt F) (m ((c : Thread nD τ).loc main_arg0))
/-- Half `d` of the weights on device `c`. -/
def wB (c : Dev nD) (d : Fin 2) : S1024x1024.Idx → Elt F .f32 :=
  (wV d).view.read (Elt F) (m ((c : Thread nD τ).loc main_arg1))

/-- A block as the caches hold it. -/
def castV (X : S1024x1024.Idx → Elt F .f32) : FVec F S1024x1024 .fp8e4m3 :=
  shapeCast S1024x1024 (truncf .fp8e4m3 X bitsLt_fp8e4m3_f32) shapeCasts_S1024x1024_S1024x1024
/-- The product block: rows `k`, half `d`. -/
def blk (c : Dev nD) (k : Fin 4) (d : Fin 2) : FVec F S1024x1024 .f32 := dotP (castV (xB m c k)) (castV (wB m c d))
/-- Its `j`-th quarter of rows. -/
def blkS (c : Dev nD) (k : Fin 4) (d : Fin 2) (j : Fin 4) : FVec F S256x1024 .f32 :=
  fun x => blk m c k d ((Rect.unit (s := S1024x1024) ![256 * j.val, 0] S256x1024.size (inInb j)).emb x)

/-- Rounded for transport. -/
def rndV (v : FVec F S256x1024 .f32) : FVec F S256x1024 .bf16 := truncf .bf16 v bitsLt_bf16_f32
/-- Widened. -/
def widV (X : FVec F S256x1024 .bf16) : FVec F S256x1024 .f32 := extf .f32 X bitsLt_bf16_f32
/-- A block's quarter and a received one, added. -/
def addV (v : FVec F S256x1024 .f32) (X : FVec F S256x1024 .bf16) : FVec F S256x1024 .f32 :=
  addf (shapeCast S256x1024 v shapeCasts_S256x1024_S256x1024) (widV X)
/-- That, scaled, its negative part dropped. -/
def endV (sc : F .f32) (v : FVec F S256x1024 .f32) (X : FVec F S256x1024 .bf16) : FVec F S256x1024 .f32 :=
  maximumf (mulf (addV v X) (broadcast S256x1024 sc)) (broadcast S256x1024 (Scalar.ofBits .f32 0x00000000#32))

/-- A scale argument as the body reads it. -/
abbrev sclA (c : Dev nD) : Elt F .f32 := (m ((c : Thread nD τ).loc main_arg2)) (Shape.Idx.first (s := S1) (by decide))
abbrev sclB (c : Dev nD) : Elt F .f32 := (m ((c : Thread nD τ).loc main_arg3)) (Shape.Idx.first (s := S1) (by decide))
/-- The scale on device `c`. -/
def scl (c : Dev nD) : F .f32 := Scalar.mulf (sclA m c) (sclB m c)

/-- What device `c` sends in direction `d` for sub-chunk `j` at hop `h`. -/
def SV (d : Fin 2) (j : Fin 4) : ℕ → Dev nD → FVec F S256x1024 .bf16
  | 0, c => rndV (shapeCast S256x1024 (blkS m c (chunk c d 0) d j) shapeCasts_S256x1024_S256x1024)
  | 1, c => rndV (addV (blkS m c (chunk c d 1) d j) (SV d j 0 (src d c)))
  | 2, c => rndV (addV (blkS m c (chunk c d 2) d j) (SV d j 1 (src d c)))
  | 3, c => rndV (endV (scl m c) (blkS m c (chunk c d 3) d j) (SV d j 2 (src d c)))
  | h + 4, c => SV d j (h + 3) (src d c)

/-- The sub-block device `c` finishes. -/
def Y (c : Dev nD) (d : Fin 2) (j : Fin 4) : FVec F S256x1024 .f32 :=
  endV (scl m c) (blkS m c (chunk c d 3) d j) (SV m d j 2 (src d c))

/-- The result on device `c`, by place on the ring. -/
def res (c : Dev nD) (d : Fin 2) : Fin 4 → Fin 4 → FVec F S256x1024 .f32
  | 0, j => widV (SV m d j 3 (src d c))
  | 1, j => widV (SV m d j 4 (src d c))
  | 2, j => widV (SV m d j 5 (src d c))
  | 3, j => Y m c d j

/-! ## The cells -/

/-- What a semaphore is for. -/
inductive Kd
  | bar
  | snd (d : Fin 2) (j : Fin 4)
  | rcv (d : Fin 2) (s : Fin 3) (j : Fin 4)
  | stg (b : Fin 2)
  | oth

def kd : SemLoc sig → Kd
  | .reg _ => .bar
  | .dma q =>
    if q.val < 3 then .oth
    else if q.val < 11 then .snd ⟨(q.val - 3) / 4 % 2, Nat.mod_lt _ (by decide)⟩ ⟨(q.val - 3) % 4, Nat.mod_lt _ (by decide)⟩
    else if q.val < 35 then .rcv ⟨(q.val - 11) / 12 % 2, Nat.mod_lt _ (by decide)⟩ ⟨(q.val - 11) / 4 % 3, Nat.mod_lt _ (by decide)⟩ ⟨(q.val - 11) % 4, Nat.mod_lt _ (by decide)⟩
    else .stg ⟨(q.val - 35) % 2, Nat.mod_lt _ (by decide)⟩

abbrev bCell (c : Dev nD) : GSem nD τ sig := ((c : Thread nD τ), .reg bSem)
abbrev sCell (c : Dev nD) (d : Fin 2) (j : Fin 4) : GSem nD τ sig := ((c : Thread nD τ), .dma (sSem d j))
abbrev rCell (c : Dev nD) (d : Fin 2) (s : Fin 3) (j : Fin 4) : GSem nD τ sig := ((c : Thread nD τ), .dma (rSem d s j))
abbrev tCell (c : Dev nD) (b : Fin 2) : GSem nD τ sig := ((c : Thread nD τ), .dma (tSem b))

theorem kd_b : kd (.reg bSem) = .bar := rfl
theorem kd_s (d : Fin 2) (j : Fin 4) : kd (.dma (sSem d j)) = .snd d j := by
  revert d j; exact fun | 0, 0 => rfl | 0, 1 => rfl | 0, 2 => rfl | 0, 3 => rfl | 1, 0 => rfl | 1, 1 => rfl | 1, 2 => rfl | 1, 3 => rfl
theorem kd_r (d : Fin 2) (s : Fin 3) (j : Fin 4) : kd (.dma (rSem d s j)) = .rcv d s j := by
  fin_cases d <;> fin_cases s <;> fin_cases j <;> rfl
theorem kd_t (b : Fin 2) : kd (.dma (tSem b)) = .stg b := by revert b; exact fun | 0 => rfl | 1 => rfl

/-- The units one 256-row transfer credits, -/
@[irreducible] def N : ℕ := (rV 0 0 0).view.dmaCredit
/-- and one staging copy. -/
@[irreducible] def NT : ℕ := (tV 0).view.dmaCredit
theorem N_pos : 0 < N := by unfold N; exact View.dmaCredit_pos _ (by decide)
theorem NT_pos : 0 < NT := by unfold NT; exact View.dmaCredit_pos _ (by decide)
theorem N_r (d : Fin 2) (s : Fin 3) (j : Fin 4) : (rV d s j).view.dmaCredit = N := by unfold N; rfl
theorem N_s (d : Fin 2) (j : Fin 4) : (sV d j).view.dmaCredit = N := by unfold N; rfl
theorem N_t (b : Fin 2) : (tV b).view.dmaCredit = NT := by unfold NT; rfl

/-- The slot hop `h` lands in. -/
def sl (h : ℕ) : Fin 3 := ⟨h % 3, Nat.mod_lt _ (by decide)⟩

/-! ## What the cells hand over -/

/-- Slot `(d, s, j)` of device `x`, at any contents. -/
def anyR (x : Dev nD) (d : Fin 2) (s : Fin 3) (j : Fin 4) (q : PosShare TreeShare) : sProp 𝕄 :=
  iprop(∃ f, (rV d s j).view.loc (x : Thread nD τ) ↦[(rV d s j).view.set]{q} f)
/-- Send buffer `(d, j)` of device `x`, at any contents. -/
def anyS (x : Dev nD) (d : Fin 2) (j : Fin 4) : sProp 𝕄 :=
  iprop(∃ f, (sV d j).view.loc (x : Thread nD τ) ↦[(sV d j).view.set]{fullShare} f)
/-- Staging slot `b`, at any contents. -/
def anyT (x : Dev nD) (b : Fin 2) : sProp 𝕄 :=
  iprop(∃ f, (tV b).view.loc (x : Thread nD τ) ↦[(tV b).view.set]{fullShare} f)

/-- Slot `(d, s, j)` of device `x`, free for the landing of round `r`. -/
def slot (x : Dev nD) (d : Fin 2) (s : Fin 3) (j : Fin 4) (r : ℕ) : sProp 𝕄 :=
  iprop(anyR (F := F) x d s j fullShare ∗ reached ER (rCell x d s j) r)

/-- The slot of the other direction that device `y` hands on with its send at hop `h`. -/
def hand (y : Dev nD) (j : Fin 4) : Fin 2 → ℕ → sProp 𝕄
  | 0, 2 => slot y 1 0 j 1
  | 0, 3 => slot y 1 1 j 1
  | 0, 4 => slot y 1 2 j 1
  | 1, 1 => slot y 0 0 j 1
  | 1, 2 => slot y 0 1 j 1
  | 1, 3 => slot y 0 2 j 1
  | _, _ => iprop(emp)

/-- The landing of hop `h`. -/
def rPay (x : Dev nD) (d : Fin 2) (j : Fin 4) (s : Fin 3) (h : ℕ) : sProp 𝕄 :=
  iprop(owns (x : Thread nD τ) (rV d s j) fullShare (SV m d j h (src d x)) ∗ hand (src d x) j d h)

/-- The end of the send of hop `h`. -/
def sPay (x : Dev nD) (d : Fin 2) (j : Fin 4) : ℕ → sProp 𝕄
  | 4 => anyR x d 0 j fullShare.left
  | 5 => anyR x d 1 j fullShare.left
  | _ => anyS x d j

def wPts (c : Dev nD) (d : Fin 2) : sProp 𝕄 :=
  (wV d).view.loc (c : Thread nD τ) ↦[(wV d).view.set]{fullShare} (m ((c : Thread nD τ).loc main_arg1))
def xPts (c : Dev nD) (k : Fin 4) : sProp 𝕄 :=
  (xV (rowOff k)).view.loc (c : Thread nD τ) ↦[(xV (rowOff k)).view.set]{fullShare} (m ((c : Thread nD τ).loc main_arg0))

def tPayW (c : Dev nD) (b d : Fin 2) : sProp 𝕄 := iprop(owns (c : Thread nD τ) (tV b) fullShare (wB m c d) ∗ wPts m c d)
def tPayX (c : Dev nD) (b : Fin 2) (k : Fin 4) : sProp 𝕄 := iprop(owns (c : Thread nD τ) (tV b) fullShare (xB m c k) ∗ xPts m c k)

/-- The end of a staging copy. -/
def tPay (c : Dev nD) : Fin 2 → ℕ → sProp 𝕄
  | 0, 0 => tPayW m c 0 0
  | 0, 1 => tPayX m c 0 (chunk c 1 3)
  | 0, 2 => tPayX m c 0 (chunk c 1 2)
  | 1, 0 => tPayX m c 1 (chunk c 1 0)
  | 1, 1 => tPayW m c 1 1
  | 1, 2 => tPayX m c 1 (chunk c 1 1)
  | _, _ => iprop(emp)

/-- The entry signal: the receive slots of the device `x` sends to in direction `d`. -/
def bPay (x : Dev nD) (d : Fin 2) : sProp 𝕄 :=
  bigSep Finset.univ fun sj : Fin 4 × Fin 3 => slot (nbr d x) d sj.2 sj.1 0

instance anyR_st (x : Dev nD) (d : Fin 2) (s : Fin 3) (j : Fin 4) (q) : BI.Storable (upEmb : UEmb _ 𝕄) (anyR (F := F) x d s j q) := by unfold anyR; infer_instance
instance anyS_st (x : Dev nD) (d : Fin 2) (j : Fin 4) : BI.Storable (upEmb : UEmb _ 𝕄) (anyS (F := F) x d j) := by unfold anyS; infer_instance
instance slot_st (x : Dev nD) (d : Fin 2) (s : Fin 3) (j : Fin 4) (r) : BI.Storable (upEmb : UEmb _ 𝕄) (slot (F := F) x d s j r) := by unfold slot; infer_instance
instance hand_st (y : Dev nD) (j : Fin 4) (d : Fin 2) (h : ℕ) : BI.Storable (upEmb : UEmb _ 𝕄) (hand (F := F) y j d h) := by
  unfold hand; split <;> infer_instance
instance rPay_st (x : Dev nD) (d : Fin 2) (j : Fin 4) (s : Fin 3) (h : ℕ) : BI.Storable (upEmb : UEmb _ 𝕄) (rPay m x d j s h) := by unfold rPay; infer_instance
instance sPay_st (x : Dev nD) (d : Fin 2) (j : Fin 4) (h : ℕ) : BI.Storable (upEmb : UEmb _ 𝕄) (sPay (F := F) x d j h) := by
  unfold sPay; split <;> infer_instance
instance wPts_st (c : Dev nD) (d : Fin 2) : BI.Storable (upEmb : UEmb _ 𝕄) (wPts m c d) := by unfold wPts; infer_instance
instance xPts_st (c : Dev nD) (k : Fin 4) : BI.Storable (upEmb : UEmb _ 𝕄) (xPts m c k) := by unfold xPts; infer_instance
instance tPay_st (c : Dev nD) (b : Fin 2) (r : ℕ) : BI.Storable (upEmb : UEmb _ 𝕄) (tPay m c b r) := by
  unfold tPay tPayW tPayX; split <;> infer_instance
instance bPay_st (x : Dev nD) (d : Fin 2) : BI.Storable (upEmb : UEmb _ 𝕄) (bPay (F := F) x d) := by unfold bPay; infer_instance

/-! ## The schedule -/

/-- The rounds of a cell. -/
def nR : Kd → ℕ
  | .bar => 1 | .snd _ _ => 6 | .rcv _ _ _ => 2 | .stg _ => 3 | .oth => 0
def dutiesK : Kd → Finset (Fin 2)
  | .bar => Finset.univ | _ => {0}
def amountK : Kd → ℕ
  | .bar => 1 | .stg _ => NT | _ => N
def payK (c : Dev nD) (r : ℕ) (d : Fin 2) : Kd → sProp 𝕄
  | .bar => bPay c d | .snd d j => sPay c d j r | .rcv d s j => rPay m c d j s (s.val + 3 * r) | .stg b => tPay m c b r | .oth => iprop(emp)

theorem amountK_pos : ∀ k : Kd, 0 < amountK k
  | .bar => Nat.one_pos
  | .snd _ _ => N_pos
  | .rcv _ _ _ => N_pos
  | .stg _ => NT_pos
  | .oth => N_pos

instance payK_st (c : Dev nD) (r : ℕ) (d : Fin 2) (k : Kd) : BI.Storable (upEmb : UEmb _ 𝕄) (payK m c r d k) := by
  cases k <;> unfold payK <;> infer_instance

def Rd : Rounds.Schedule (GSem nD τ sig) (Fin 2) 𝕄 where
  duties g r := if g.1.2 = .tc ∧ r < nR (kd g.2) then dutiesK (kd g.2) else ∅
  unitless _ := False
  amount g _ _ := amountK (kd g.2)
  payload g r d := payK m g.1.1 r d (kd g.2)
  amount_pos g _ _ _ := amountK_pos (kd g.2)

instance Rd_st (g : GSem nD τ sig) (r : ℕ) (d : Fin 2) : BI.Storable (upEmb : UEmb _ 𝕄) ((Rd m).payload g r d) :=
  payK_st m g.1.1 r d (kd g.2)

/-! ## Its tables -/

theorem duties_b (c : Dev nD) : (Rd m).duties (bCell c) 0 = Finset.univ := by
  show (if (bCell c).1.2 = .tc ∧ 0 < nR (kd (.reg bSem)) then dutiesK (kd (.reg bSem)) else ∅) = _
  rw [kd_b]; exact if_pos ⟨rfl, Nat.one_pos⟩
theorem duties_s (c : Dev nD) (d : Fin 2) (j : Fin 4) {r : ℕ} (h : r < 6) : (Rd m).duties (sCell c d j) r = {0} := by
  show (if _ ∧ r < nR (kd (.dma (sSem d j))) then dutiesK (kd (.dma (sSem d j))) else ∅) = _
  rw [kd_s]; exact if_pos ⟨rfl, h⟩
theorem duties_r (c : Dev nD) (d : Fin 2) (s : Fin 3) (j : Fin 4) {r : ℕ} (h : r < 2) : (Rd m).duties (rCell c d s j) r = {0} := by
  show (if _ ∧ r < nR (kd (.dma (rSem d s j))) then dutiesK (kd (.dma (rSem d s j))) else ∅) = _
  rw [kd_r]; exact if_pos ⟨rfl, h⟩
theorem duties_t (c : Dev nD) (b : Fin 2) {r : ℕ} (h : r < 3) : (Rd m).duties (tCell c b) r = {0} := by
  show (if _ ∧ r < nR (kd (.dma (tSem b))) then dutiesK (kd (.dma (tSem b))) else ∅) = _
  rw [kd_t]; exact if_pos ⟨rfl, h⟩
theorem duties_late (g : GSem nD τ sig) (r : ℕ) (h : nR (kd g.2) ≤ r) : (Rd m).duties g r = ∅ :=
  if_neg fun h' => absurd h'.2 (Nat.not_lt.mpr h)

theorem amount_b (c : Dev nD) (r : ℕ) (d : Fin 2) : (Rd m).amount (bCell c) r d = 1 := rfl
theorem amount_s (c : Dev nD) (d : Fin 2) (j : Fin 4) (r : ℕ) (k : Fin 2) : (Rd m).amount (sCell c d j) r k = N := by
  show amountK (kd (.dma (sSem d j))) = _; rw [kd_s]; rfl
theorem amount_r (c : Dev nD) (d : Fin 2) (s : Fin 3) (j : Fin 4) (r : ℕ) (k : Fin 2) : (Rd m).amount (rCell c d s j) r k = N := by
  show amountK (kd (.dma (rSem d s j))) = _; rw [kd_r]; rfl
theorem amount_t (c : Dev nD) (b : Fin 2) (r : ℕ) (k : Fin 2) : (Rd m).amount (tCell c b) r k = NT := by
  show amountK (kd (.dma (tSem b))) = _; rw [kd_t]; rfl

theorem expect_b (c : Dev nD) : (Rd m).expect (bCell c) 0 = 2 := by
  unfold Schedule.expect Schedule.amountOf
  rw [duties_b, Finset.sum_congr rfl fun d _ => amount_b m c 0 d]; rfl
theorem expect_s (c : Dev nD) (d : Fin 2) (j : Fin 4) {r : ℕ} (h : r < 6) : (Rd m).expect (sCell c d j) r = N := by
  unfold Schedule.expect Schedule.amountOf; rw [duties_s m c d j h, Finset.sum_singleton, amount_s]
theorem expect_r (c : Dev nD) (d : Fin 2) (s : Fin 3) (j : Fin 4) {r : ℕ} (h : r < 2) : (Rd m).expect (rCell c d s j) r = N := by
  unfold Schedule.expect Schedule.amountOf; rw [duties_r m c d s j h, Finset.sum_singleton, amount_r]
theorem expect_t (c : Dev nD) (b : Fin 2) {r : ℕ} (h : r < 3) : (Rd m).expect (tCell c b) r = NT := by
  unfold Schedule.expect Schedule.amountOf; rw [duties_t m c b h, Finset.sum_singleton, amount_t]

theorem payload_b (c : Dev nD) (r : ℕ) (d : Fin 2) : (Rd m).payload (bCell c) r d = bPay c d := rfl
theorem payload_s (c : Dev nD) (d : Fin 2) (j : Fin 4) (r : ℕ) (k : Fin 2) : (Rd m).payload (sCell c d j) r k = sPay c d j r := by
  show payK m c r k (kd (.dma (sSem d j))) = _; rw [kd_s]; rfl
theorem payload_r (c : Dev nD) (d : Fin 2) (s : Fin 3) (j : Fin 4) (r : ℕ) (k : Fin 2) : (Rd m).payload (rCell c d s j) r k = rPay m c d j s (s.val + 3 * r) := by
  show payK m c r k (kd (.dma (rSem d s j))) = _; rw [kd_r]; rfl
theorem payload_t (c : Dev nD) (b : Fin 2) (r : ℕ) (k : Fin 2) : (Rd m).payload (tCell c b) r k = tPay m c b r := by
  show payK m c r k (kd (.dma (tSem b))) = _; rw [kd_t]; rfl

theorem rest_b (c : Dev nD) : bigSep ((Rd m).duties (bCell c) 0 \ ∅) (fun d => (Rd m).payload (bCell c) 0 d) = iprop(bPay (F := F) c 0 ∗ bPay c 1) := by
  rw [Finset.sdiff_empty, duties_b, bigSep_univ_eq_bigSepL [0, 1] (by decide) (by decide), bigSepL_cons_cons, bigSepL_singleton]; rfl
theorem rest_s (c : Dev nD) (d : Fin 2) (j : Fin 4) {r : ℕ} (h : r < 6) :
    bigSep ((Rd m).duties (sCell c d j) r \ ∅) (fun k => (Rd m).payload (sCell c d j) r k) = sPay c d j r := by
  rw [Finset.sdiff_empty, duties_s m c d j h, bigSep_singleton, payload_s]
theorem rest_r (c : Dev nD) (d : Fin 2) (s : Fin 3) (j : Fin 4) {r : ℕ} (h : r < 2) :
    bigSep ((Rd m).duties (rCell c d s j) r \ ∅) (fun k => (Rd m).payload (rCell c d s j) r k) = rPay m c d j s (s.val + 3 * r) := by
  rw [Finset.sdiff_empty, duties_r m c d s j h, bigSep_singleton, payload_r]
theorem rest_t (c : Dev nD) (b : Fin 2) {r : ℕ} (h : r < 3) :
    bigSep ((Rd m).duties (tCell c b) r \ ∅) (fun k => (Rd m).payload (tCell c b) r k) = tPay m c b r := by
  rw [Finset.sdiff_empty, duties_t m c b h, bigSep_singleton, payload_t]

/-! ## What is owed, and the levels -/

/-- The `i`-th send in program order: hop `i / 8`, sub-chunk `i % 8 / 2`, direction `i % 2`. -/
def owedT (c : Dev nD) (i : ℕ) : CellTallies nD τ sig Bool :=
  tallyAt (rCell (nbr ⟨i % 2, Nat.mod_lt _ (by decide)⟩ c) ⟨i % 2, Nat.mod_lt _ (by decide)⟩ (sl (i / 8)) ⟨i / 2 % 4, Nat.mod_lt _ (by decide)⟩) (decide (3 ≤ i / 8)) N
/-- What device `c` owes from the `t`-th send on. -/
def owedF (c : Dev nD) (t : ℕ) : CellTallies nD τ sig Bool := ∑ i ∈ Finset.Ico t 48, owedT c i
def O₁ (c : Dev nD) : CellTallies nD τ sig Bool := owedF c 0 + tallyAt (bCell (nbr 0 c)) false 1
def O₀ (c : Dev nD) : CellTallies nD τ sig Bool := O₁ c + tallyAt (bCell (nbr 1 c)) false 1

theorem owedF_succ (c : Dev nD) {t : ℕ} (h : t < 48) : owedF c t = owedF c (t + 1) + owedT c t := by
  unfold owedF
  rw [show Finset.Ico t 48 = insert t (Finset.Ico (t + 1) 48) by ext x; simp only [Finset.mem_Ico, Finset.mem_insert]; omega,
    Finset.sum_insert (by simp), add_comm]
theorem owedF_end (c : Dev nD) : owedF c 48 = 0 := by unfold owedF; rw [Finset.Ico_self, Finset.sum_empty]

def L (g : GSem nD τ sig) : Finset Bool := if g.1.2 = .tc then Finset.univ else ∅
def lvK (ι : Bool) : Kd → ℕ
  | .bar => 1 | .rcv _ s _ => 2 + s.val + (if ι then 3 else 0) | _ => 0
def lv (g : GSem nD τ sig) (ι : Bool) : ℕ := lvK ι (kd g.2)

theorem L_of_ne (g : GSem nD τ sig) (h : g.1.2 ≠ .tc) : L g = ∅ := if_neg h
theorem L_tc (c : Dev nD) (sm : SemLoc sig) (ι : Bool) : ι ∈ L ((c : Thread nD τ), sm) := by
  rw [show L ((c : Thread nD τ), sm) = Finset.univ from if_pos rfl]; exact Finset.mem_univ _

theorem owedT_pos {c : Dev nD} {i : ℕ} (hi : i < 48) {g : GSem nD τ sig} {ι : Bool} (h : 0 < owedT c i g ι) : g.1.2 = .tc ∧ lv g ι = 2 + i / 8 := by
  unfold owedT at h; rw [tallyAt_apply] at h
  by_cases hc : g = rCell (nbr ⟨i % 2, Nat.mod_lt _ (by decide)⟩ c) ⟨i % 2, Nat.mod_lt _ (by decide)⟩ (sl (i / 8)) ⟨i / 2 % 4, Nat.mod_lt _ (by decide)⟩ ∧ ι = decide (3 ≤ i / 8)
  · obtain ⟨rfl, rfl⟩ := hc
    refine ⟨rfl, ?_⟩
    unfold lv; rw [kd_r]
    show 2 + i / 8 % 3 + _ = _
    by_cases h3 : 3 ≤ i / 8
    · rw [if_pos (decide_eq_true h3)]; omega
    · rw [if_neg (by simpa using h3)]; omega
  · rw [if_neg hc] at h; exact absurd h (Nat.lt_irrefl 0)

theorem owedF_pos {c : Dev nD} {t : ℕ} {g : GSem nD τ sig} {ι : Bool} (h : 0 < owedF c t g ι) : g.1.2 = .tc ∧ 2 + t / 8 ≤ lv g ι := by
  unfold owedF at h
  rw [Finset.sum_apply, Finsupp.finset_sum_apply] at h
  obtain ⟨i, hi, hp⟩ := Finset.exists_ne_zero_of_sum_ne_zero (Nat.pos_iff_ne_zero.mp h)
  obtain ⟨h1, h2⟩ := owedT_pos (Finset.mem_Ico.mp hi).2 (Nat.pos_of_ne_zero hp)
  have := (Finset.mem_Ico.mp hi).1
  exact ⟨h1, by rw [h2]; omega⟩

theorem mem_L {g : GSem nD τ sig} (h : g.1.2 = .tc) (ι : Bool) : ι ∈ L g := by
  unfold L; rw [if_pos h]; exact Finset.mem_univ _

/-- A wait below the hop of the next send is allowed. -/
theorem mayWait (c : Dev nD) (sm : SemLoc sig) (ι : Bool) (t : ℕ) (h : lv ((c : Thread nD τ), sm) ι < 2 + t / 8) :
    (levAts L lv : sProp 𝕄) ⊢ MayWait (c : Thread nD τ) sm ι (owedF c t) :=
  MayOwe.of_cut (L := L) (lev := lv) (1 + t / 8) (fun p hp => by rw [Finset.mem_singleton.mp hp]; exact L_tc _ _ _)
    (fun g u hg => mem_L (owedF_pos hg).1 u)
    (fun p hp => by rw [Finset.mem_singleton.mp hp]; show lv ((c : Thread nD τ), sm) ι ≤ _; omega)
    (fun g u hg => by have := (owedF_pos hg).2; omega)

theorem O₀_pos {c : Dev nD} {g : GSem nD τ sig} {ι : Bool} (h : 0 < O₀ c g ι) : g.1.2 = .tc ∧ 1 ≤ lv g ι := by
  unfold O₀ O₁ at h
  rw [Pi.add_apply, Finsupp.add_apply, Pi.add_apply, Finsupp.add_apply] at h
  rcases Nat.eq_zero_or_pos (owedF c 0 g ι) with h0 | h0
  · rw [h0, tallyAt_apply, tallyAt_apply] at h
    by_cases h1 : g = bCell (nbr 0 c) ∧ ι = false
    · rw [h1.1]; exact ⟨rfl, le_rfl⟩
    · by_cases h2 : g = bCell (nbr 1 c) ∧ ι = false
      · rw [h2.1]; exact ⟨rfl, le_rfl⟩
      · rw [if_neg h1, if_neg h2] at h; exact absurd h (Nat.lt_irrefl 0)
  · have := owedF_pos h0; exact ⟨this.1, by omega⟩

theorem mayWait₀ (c : Dev nD) (sm : SemLoc sig) (ι : Bool) (h : lv ((c : Thread nD τ), sm) ι = 0) :
    (levAts L lv : sProp 𝕄) ⊢ MayWait (c : Thread nD τ) sm ι (O₀ c) :=
  MayOwe.of_cut (L := L) (lev := lv) 0 (fun p hp => by rw [Finset.mem_singleton.mp hp]; exact L_tc _ _ _)
    (fun g u hg => mem_L (O₀_pos hg).1 u)
    (fun p hp => by rw [Finset.mem_singleton.mp hp]; show lv ((c : Thread nD τ), sm) ι ≤ _; omega)
    (fun g u hg => (O₀_pos hg).2)

end Cert.KernelIdeal.Roll

end
-- ==== Proof.Steps.lean ====
/- One rule per kind of step of the body: what a wait, a send, a staging copy, a fill takes and gives back. -/
module

public import proofs.«01_k».proof.Proof.Proto
public import Idealize.ShloMosaic.Lib.Pipeline.Value

@[expose] public section

noncomputable section

namespace Cert.KernelIdeal.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Bool (Elt F) ℕ UU ℕ

abbrev 𝒱₀ : Variants := Variants.none

/-- The body's program `p` on device `c` reaches `Q`. -/
abbrev WP (c : Dev nD) (p : P F) (Q : PUnit → sProp 𝕄) : sProp 𝕄 :=
  wp frame (wpE (defs₀ (F := F)) 𝒱₀ (c : Thread nD τ) none) Set.univ p Q

variable (m : (ℓ : Loc nD τ sig) → Buf (Elt F) ℓ) (K : Dev nD × Fin 35 → ℕ)

/-! ## The cells' invariants -/

abbrev sIx (d : Fin 2) (j : Fin 4) : Fin 35 := ⟨1 + 4 * d.val + j.val, by omega⟩
abbrev rIx (d : Fin 2) (s : Fin 3) (j : Fin 4) : Fin 35 := ⟨9 + 12 * d.val + 4 * s.val + j.val, by omega⟩
abbrev tIx (b : Fin 2) : Fin 35 := ⟨33 + b.val, by omega⟩

/-- The protocol's semaphores, numbered. -/
def csem (k : Fin 35) : SemLoc sig := if h : k.val = 0 then .reg bSem else .dma ⟨k.val + 2, by have := k.isLt; show k.val + 2 < 37; omega⟩
abbrev kcell (ck : Dev nD × Fin 35) : GSem nD τ sig := ((ck.1 : Thread nD τ), csem ck.2)

theorem csem_b : csem 0 = .reg bSem := rfl
theorem csem_s (d : Fin 2) (j : Fin 4) : csem (sIx d j) = .dma (sSem d j) := by fin_cases d <;> fin_cases j <;> rfl
theorem csem_r (d : Fin 2) (s : Fin 3) (j : Fin 4) : csem (rIx d s j) = .dma (rSem d s j) := by
  fin_cases d <;> fin_cases s <;> fin_cases j <;> rfl
theorem csem_t (b : Fin 2) : csem (tIx b) = .dma (tSem b) := by fin_cases b <;> rfl

/-- What every step may use: each cell's invariant, and the levels. -/
def ctx : sProp 𝕄 :=
  iprop((bigSep Finset.univ fun ck : Dev nD × Fin 35 => cellInv ER (Rd m) (K ck) (kcell ck)) ∗ levAts L lv)

instance ctx_persistent : BI.Persistent (ctx m K) := by unfold ctx; infer_instance

theorem ctx_lev : ctx m K ⊢ levAts L lv := by unfold ctx; exact sep_elim_right
theorem ctx_cell (c : Dev nD) (k : Fin 35) : ctx m K ⊢ cellInv ER (Rd m) (K (c, k)) ((c : Thread nD τ), csem k) := by
  unfold ctx
  exact sep_elim_left.trans (bigSep_elim (i := (c, k)) (Finset.mem_univ _))
theorem ctx_b (c : Dev nD) : ctx m K ⊢ cellInv ER (Rd m) (K (c, 0)) (bCell c) := ctx_cell m K c 0
theorem ctx_s (c : Dev nD) (d : Fin 2) (j : Fin 4) : ctx m K ⊢ cellInv ER (Rd m) (K (c, sIx d j)) (sCell c d j) := by
  have h := ctx_cell m K c (sIx d j); rwa [csem_s] at h
theorem ctx_r (c : Dev nD) (d : Fin 2) (s : Fin 3) (j : Fin 4) : ctx m K ⊢ cellInv ER (Rd m) (K (c, rIx d s j)) (rCell c d s j) := by
  have h := ctx_cell m K c (rIx d s j); rwa [csem_r] at h
theorem ctx_t (c : Dev nD) (b : Fin 2) : ctx m K ⊢ cellInv ER (Rd m) (K (c, tIx b)) (tCell c b) := by
  have h := ctx_cell m K c (tIx b); rwa [csem_t] at h

theorem owns_mk (c : Dev nD) {sp : Space} {sh : Shape} {e : EltTy} (M : Memref sig .tc sp sh e) (q : PosShare TreeShare)
    {f : M.view.ty.Contents (Elt F)} {X : sh.Idx → Elt F e} (h : M.view.read (Elt F) f = X) :
    (M.view.loc (c : Thread nD τ) ↦[M.view.set]{q} f : sProp 𝕄) ⊢ owns (c : Thread nD τ) M q X := by
  subst h; exact owns_intro _ _ _ _

/-- What device `c` still owes before its `t`-th send. -/
def Ow (c : Dev nD) (t : ℕ) : sProp 𝕄 := iprop(∃ W, owes (c : Thread nD τ) (owedF c t) W)

/-! ## Waits and sends -/

theorem wp_waitR (c : Dev nD) (sr : Memref sig .tc .vmem S256x1024 .bf16) (hs : sr.view.WordExact) (d : Fin 2) (s : Fin 3) (j : Fin 4)
    (r t : ℕ) (hr : r < 2) (ht : s.val + 3 * r < t / 8) (k : P F) (Q : PUnit → sProp 𝕄) :
    iprop(ctx m K ∗ cred (tallyAt (rCell c d s j) (decide (0 < r)) N) ∗ Ow c t ∗ atPos ER (rCell c d s j) r ∅ 0)
      ⊢ iprop((Ow c t ∗ atPos ER (rCell c d s j) (r + 1) ∅ 0 ∗ reached ER (rCell c d s j) (r + 1)
            ∗ rPay m c d j s (s.val + 3 * r) -∗ WP c k Q)
          -∗ WP c (waitR sr hs d s j k) Q) := by
  unfold Ow waitR WP
  iintro ⟨#Hc, Hcr, ⟨%W, HO⟩, Hat⟩ Hk
  iapply (Rounds.wp_wait_rest_token 𝒱₀ ER (Rd m) (c : Thread nD τ) none (κ := K (c, rIx d s j))
      (wpE_waitDma2_eq 𝒱₀ (c : Thread nD τ) none Set.univ) (Set.mem_univ _) (decide (0 < r)) (O := owedF c t) (W := W) (R := r) (m := 0) (T := ∅)
      (by rw [Nat.zero_add, expect_r m c d s j hr, N_r])) $$ [Hcr HO Hat]
  · isplitr; · iapply (ctx_r m K c d s j); iexact Hc
    isplitl [Hcr]; · rw [N_r]; iexact Hcr
    isplitl [HO]; · iexact HO
    isplitr
    · iapply (mayWait c (.dma (rSem d s j)) (decide (0 < r)) t (by
        unfold lv; rw [kd_r]; show 2 + s.val + _ < _
        by_cases h0 : 0 < r
        · rw [if_pos (decide_eq_true h0)]; omega
        · rw [if_neg (by simpa using h0)]; omega))
      iapply (ctx_lev m K); iexact Hc
    iexact Hat
  iintro ⟨HO, Hat, Hre, Hp⟩
  iapply Hk
  isplitl [HO]; · iexists _; iexact HO
  isplitl [Hat]; · iexact Hat
  isplitl [Hre]; · iexact Hre
  iapply (Entails.of_eq (rest_r m c d s j hr)); iexact Hp

theorem wp_waitS (c : Dev nD) (sr : Memref sig .tc .vmem S256x1024 .bf16) (hs : sr.view.WordExact) (hN : sr.view.dmaCredit = N)
    (d : Fin 2) (s : Fin 3) (j : Fin 4) (r t : ℕ) (hr : r < 6) (k : P F) (Q : PUnit → sProp 𝕄) :
    iprop(ctx m K ∗ cred (tallyAt (sCell c d j) false N) ∗ Ow c t ∗ atPos ER (sCell c d j) r ∅ 0)
      ⊢ iprop((Ow c t ∗ atPos ER (sCell c d j) (r + 1) ∅ 0 ∗ reached ER (sCell c d j) (r + 1) ∗ sPay c d j r -∗ WP c k Q)
          -∗ WP c (waitS sr hs d s j k) Q) := by
  unfold Ow waitS WP
  iintro ⟨#Hc, Hcr, ⟨%W, HO⟩, Hat⟩ Hk
  iapply (Rounds.wp_wait_rest_token 𝒱₀ ER (Rd m) (c : Thread nD τ) none (κ := K (c, sIx d j))
      (wpE_waitDma2_eq 𝒱₀ (c : Thread nD τ) none Set.univ) (Set.mem_univ _) false (O := owedF c t) (W := W) (R := r) (m := 0) (T := ∅)
      (by rw [Nat.zero_add, expect_s m c d j hr, hN])) $$ [Hcr HO Hat]
  · isplitr; · iapply (ctx_s m K c d j); iexact Hc
    isplitl [Hcr]; · rw [hN]; iexact Hcr
    isplitl [HO]; · iexact HO
    isplitr
    · iapply (mayWait c (.dma (sSem d j)) false t (by unfold lv; rw [kd_s]; show 0 < _; omega))
      iapply (ctx_lev m K); iexact Hc
    iexact Hat
  iintro ⟨HO, Hat, Hre, Hp⟩
  iapply Hk
  isplitl [HO]; · iexists _; iexact HO
  isplitl [Hat]; · iexact Hat
  isplitl [Hre]; · iexact Hre
  iapply (Entails.of_eq (rest_s m c d j hr)); iexact Hp

theorem owedT_eq (c : Dev nD) (h : ℕ) (j : Fin 4) (d : Fin 2) :
    owedT c (8 * h + 2 * j.val + d.val) = tallyAt (rCell (nbr d c) d (sl h) j) (decide (3 ≤ h)) N := by
  have h1 : (8 * h + 2 * j.val + d.val) / 8 = h := by omega
  have h2 : (⟨(8 * h + 2 * j.val + d.val) % 2, Nat.mod_lt _ (by decide)⟩ : Fin 2) = d := Fin.ext (by show _ % 2 = _; omega)
  have h3 : (⟨(8 * h + 2 * j.val + d.val) / 2 % 4, Nat.mod_lt _ (by decide)⟩ : Fin 4) = j := Fin.ext (by show _ / 2 % 4 = _; omega)
  unfold owedT; rw [h1, h2, h3]

/-- The send of hop `h`: the source's contents are what the schedule says, the target slot is free. -/
theorem wp_send (c : Dev nD) (sr : Memref sig .tc .vmem S256x1024 .bf16) (hs : sr.view.WordExact) (q : PosShare TreeShare)
    (d : Fin 2) (s : Fin 3) (j : Fin 4) (h : ℕ) (hh : h < 6) (hsl : sl h = s)
    (hpay : ∀ f, (sr.view.loc (c : Thread nD τ) ↦[sr.view.set]{q} f : sProp 𝕄) ⊢ sPay c d j h)
    (n : Dev nD) (hn : n = nbr d c) (k : P F) (Q : PUnit → sProp 𝕄) :
    iprop(ctx m K ∗ owns (c : Thread nD τ) sr q (SV m d j h c) ∗ slot (nbr d c) d s j (h / 3) ∗ hand c j d h ∗ Ow c (8 * h + 2 * j.val + d.val)
        ∗ dutyTok ER (sCell c d j) h 0 ∗ reached ER (sCell c d j) h ∗ dutyTok ER (rCell (nbr d c) d s j) (h / 3) 0)
      ⊢ iprop((cred (tallyAt (sCell c d j) false N) ∗ Ow c (8 * h + 2 * j.val + d.val + 1) -∗ WP c k Q)
          -∗ WP c (send sr hs d s j n k) Q) := by
  subst hn hsl
  have hsl' : (sl h).val + 3 * (h / 3) = h := by show h % 3 + _ = _; omega
  unfold Ow send WP slot anyR owns
  iintro ⟨#Hc, ⟨%f, %hf, Hs⟩, ⟨⟨%fd, Hd⟩, #Hre⟩, Hh, ⟨%W, HO⟩, Ht, #Hrs, Htr⟩ Hk
  rw [show owedF c (8 * h + 2 * j.val + d.val) = owedF c (8 * h + 2 * j.val + d.val + 1)
    + tallyAt (rCell (nbr d c) d (sl h) j) (decide (3 ≤ h)) N by rw [← owedT_eq, ← owedF_succ c (by omega)]]
  iapply (Rounds.wp_send_pointsTo_with 𝒱₀ ER (Rd m) (c : Thread nD τ) none (c' := Dev.tc (nbr d c)) (κ₁ := K (c, sIx d j)) (κ₂ := K (nbr d c, rIx d (sl h) j))
      (r₁ := h) (r₂ := h / 3) (d₁ := 0) (d₂ := 0) (fd := fd) (F := hand c j d h)
      (by rw [duties_s m c d j hh]; exact Finset.mem_singleton_self _)
      (by rw [duties_r m (nbr d c) d (sl h) j (by omega)]; exact Finset.mem_singleton_self _)
      (decide (3 ≤ h)) false N ((View.amount_dma _ _).trans (N_r d (sl h) j)) (amount_s m c d j h 0) (amount_r m (nbr d c) d (sl h) j (h / 3) 0)
      (owedF c (8 * h + 2 * j.val + d.val + 1)) rfl (W := W)
      (by rw [payload_s]; exact hpay f)
      (by
        rw [payload_r, hsl']; unfold rPay; rw [src_nbr]
        exact sep_mono_left (owns_mk _ _ _ ((View.read_write_univ _ _).trans hf)))) $$ [Hs Hd Hh HO Ht Htr]
  · isplitr; · iapply (ctx_s m K c d j); iexact Hc
    isplitr; · iapply (ctx_r m K (nbr d c) d (sl h) j); iexact Hc
    isplitl [Hs]; · iexact Hs
    isplitl [Hd Hh]; · isplitl [Hd] <;> iassumption
    isplitl [HO]; · iexact HO
    isplitl [Ht]; · iexact Ht
    isplitr; · iexact Hrs
    isplitl [Htr]; · iexact Htr
    iexact Hre
  iintro ⟨Hcr, HO⟩
  iapply Hk
  isplitl [Hcr]; · iexact Hcr
  iexists _; iexact HO

/-! ## Staging -/

/-- Staging slot `b` free, `r` copies through it done. -/
def StA (c : Dev nD) (b : Fin 2) (r : ℕ) : sProp 𝕄 :=
  iprop(anyT c b ∗ (bigSep (Finset.Ico r 3) fun i => dutyTok ER (tCell c b) i 0) ∗ atPos ER (tCell c b) r ∅ 0 ∗ reached ER (tCell c b) r)
/-- Copy `r` through slot `b` under way. -/
def StB (c : Dev nD) (b : Fin 2) (r : ℕ) : sProp 𝕄 :=
  iprop((bigSep (Finset.Ico (r + 1) 3) fun i => dutyTok ER (tCell c b) i 0) ∗ atPos ER (tCell c b) r ∅ 0 ∗ cred (tallyAt (tCell c b) false NT))
/-- Copy `r` through slot `b` arrived. -/
def StC (c : Dev nD) (b : Fin 2) (r : ℕ) : sProp 𝕄 :=
  iprop((bigSep (Finset.Ico r 3) fun i => dutyTok ER (tCell c b) i 0) ∗ atPos ER (tCell c b) r ∅ 0 ∗ reached ER (tCell c b) r)

theorem wp_startT (c : Dev nD) (sr : Memref sig .tc .hbm S1024x1024 .f32) (hs : sr.view.WordExact) (b : Fin 2) (r : ℕ) (hr : r < 3)
    (fs : Buf (Elt F) (sr.view.loc (c : Thread nD τ)))
    (hpay : iprop(owns (c : Thread nD τ) (tV b) fullShare (sr.view.read (Elt F) fs) ∗ (sr.view.loc (c : Thread nD τ) ↦[sr.view.set]{fullShare} fs)) ⊢ tPay m c b r)
    (k : P F) (Q : PUnit → sProp 𝕄) :
    iprop(ctx m K ∗ StA c b r ∗ (sr.view.loc (c : Thread nD τ) ↦[sr.view.set]{fullShare} fs))
      ⊢ iprop((StB c b r -∗ WP c k Q) -∗ WP c (startT sr hs b k) Q) := by
  unfold StA StB startT WP anyT
  rw [bigSep_Ico_succ_bot hr]
  iintro ⟨#Hc, ⟨⟨%fd, Hd⟩, ⟨Ht, Hts⟩, Hat, #Hre⟩, Hs⟩ Hk
  iapply (Rounds.wp_copy_pointsTo 𝒱₀ ER (Rd m) (c : Thread nD τ) none (κ := K (c, tIx b)) (r := r) (d := 0) (fd := fd) (fs := fs) (q := fullShare)
      (by rw [duties_t m c b hr]; exact Finset.mem_singleton_self _) false NT ((View.amount_dma _ _).trans (N_t b)) (amount_t m c b r 0)
      (by rw [payload_t]; exact (sep_mono_left (owns_mk c (tV b) fullShare (View.read_write_univ _ _))).trans hpay)) $$ [Hd Hs Ht]
  · isplitr; · iapply (ctx_t m K c b); iexact Hc
    isplitl [Hs]; · iexact Hs
    isplitl [Hd]; · iexact Hd
    isplitl [Ht]; · iexact Ht
    iexact Hre
  iintro Hcr
  iapply Hk
  isplitl [Hts]; · iexact Hts
  isplitl [Hat] <;> iassumption

theorem wp_waitT (c : Dev nD) (sr : Memref sig .tc .hbm S1024x1024 .f32) (hs : sr.view.WordExact) (b : Fin 2) (r t : ℕ) (hr : r < 3)
    (k : P F) (Q : PUnit → sProp 𝕄) :
    iprop(ctx m K ∗ StB c b r ∗ Ow c t) ⊢ iprop((StC c b (r + 1) ∗ Ow c t ∗ tPay m c b r -∗ WP c k Q) -∗ WP c (waitT sr hs b k) Q) := by
  unfold StB StC Ow waitT WP
  iintro ⟨#Hc, ⟨Hts, Hat, Hcr⟩, ⟨%W, HO⟩⟩ Hk
  iapply (Rounds.wp_wait_rest_token 𝒱₀ ER (Rd m) (c : Thread nD τ) none (κ := K (c, tIx b))
      (wpE_waitDma2_eq 𝒱₀ (c : Thread nD τ) none Set.univ) (Set.mem_univ _) false (O := owedF c t) (W := W) (R := r) (m := 0) (T := ∅)
      (by rw [Nat.zero_add, expect_t m c b hr, N_t])) $$ [Hcr HO Hat]
  · isplitr; · iapply (ctx_t m K c b); iexact Hc
    isplitl [Hcr]; · rw [N_t]; iexact Hcr
    isplitl [HO]; · iexact HO
    isplitr
    · iapply (mayWait c (.dma (tSem b)) false t (by unfold lv; rw [kd_t]; show 0 < _; omega))
      iapply (ctx_lev m K); iexact Hc
    iexact Hat
  iintro ⟨HO, Hat, Hre, Hp⟩
  iapply Hk
  isplitl [Hts Hat Hre]
  · isplitl [Hts]; · iexact Hts
    isplitl [Hat] <;> iassumption
  isplitl [HO]; · iexists _; iexact HO
  iapply (Entails.of_eq (rest_t m c b hr)); iexact Hp

theorem StC_any (c : Dev nD) (b : Fin 2) (r : ℕ) (X : S1024x1024.Idx → Elt F .f32) :
    iprop(owns (c : Thread nD τ) (tV b) fullShare X ∗ StC c b r) ⊢ StA c b r := by
  unfold StA StC anyT owns
  iintro ⟨⟨%f, -, H⟩, Hr⟩
  isplitl [H]; · iexists f; iexact H
  iexact Hr

/-! ## The local buffers -/

theorem sV_set (d : Fin 2) (j : Fin 4) : (sV d j).view.set = (mS.access (sRect d j)).set := View.set_reshape _ _
theorem rV_set (d : Fin 2) (s : Fin 3) (j : Fin 4) : (rV d s j).view.set = (mR.access (rRect d s j)).set := View.set_reshape _ _
theorem tV_set (b : Fin 2) : (tV b).view.set = (mT.access (tRect b)).set := View.set_reshape _ _
theorem sCasts : S1x1x256x1024.ShapeCasts S256x1024 := by decide
theorem sV_read (d : Fin 2) (j : Fin 4) (f : mS.view.ty.Contents (Elt F)) :
    (sV d j).view.read (Elt F) f = shapeCast S256x1024 ((mS.access (sRect d j)).read (Elt F) f) sCasts := rfl
theorem rV_read (d : Fin 2) (s : Fin 3) (j : Fin 4) (f : mR.view.ty.Contents (Elt F)) :
    (rV d s j).view.read (Elt F) f = shapeCast S256x1024 ((mR.access (rRect d s j)).read (Elt F) f) shapeCasts_S1x1x1x256x1024_S256x1024 := rfl
theorem tV_read (b : Fin 2) (f : mT.view.ty.Contents (Elt F)) :
    (tV b).view.read (Elt F) f = shapeCast S1024x1024 ((mT.access (tRect b)).read (Elt F) f) shapeCasts_S1x1024x1024_S1024x1024 := rfl

theorem sV_write (d : Fin 2) (j : Fin 4) (f : mS.view.ty.Contents (Elt F)) (v : FVec F S256x1024 .bf16) :
    (sV d j).view.read (Elt F) ((mS.access (sRect d j)).write (Elt F) f (shapeCast S1x1x256x1024 v shapeCasts_S256x1024_S1x1x256x1024) Finset.univ) = v := by
  rw [sV_read, View.read_write_univ]
  exact shapeCast_shapeCast v shapeCasts_S256x1024_S1x1x256x1024 sCasts

theorem wp_fill (c : Dev nD) (d : Fin 2) (j : Fin 4) (v : FVec F S256x1024 .bf16) (k : P F) (Q : PUnit → sProp 𝕄) :
    anyS c d j ⊢ iprop((owns (c : Thread nD τ) (sV d j) fullShare v -∗ WP c k Q)
      -∗ WP c (fill d j (shapeCast S1x1x256x1024 v shapeCasts_S256x1024_S1x1x256x1024) k) Q) := by
  unfold anyS fill WP
  iintro ⟨%f, H⟩ Hk
  iapply (wp_load_rect 𝒱₀ (c : Thread nD τ) none Set.univ (m := mS) (r := sRect d j) (S := (sV d j).view.set) (sV_set d j).ge) $$ H; iintro H
  iapply (wp_store 𝒱₀ (c : Thread nD τ) none Set.univ (m := mS) (r := sRect d j) (Mk := Finset.univ) (S := (sV d j).view.set) (sV_set d j).ge) $$ H; iintro H
  iapply Hk
  iapply (owns_mk c (sV d j) fullShare (sV_write d j f v)); iexact H

theorem wp_readR (c : Dev nD) (d : Fin 2) (s : Fin 3) (j : Fin 4) (q : PosShare TreeShare) (X : FVec F S256x1024 .bf16)
    (k : Vec F S1x1x1x256x1024 .bf16 → P F) (Q : PUnit → sProp 𝕄) :
    owns (c : Thread nD τ) (rV d s j) q X
      ⊢ iprop((∀ w, ⌜shapeCast S256x1024 w shapeCasts_S1x1x1x256x1024_S256x1024 = X⌝ -∗ owns (c : Thread nD τ) (rV d s j) q X -∗ WP c (k w) Q)
      -∗ WP c (readR d s j k) Q) := by
  unfold readR WP
  conv_lhs => unfold owns
  iintro ⟨%f, %hf, H⟩ Hk
  iapply (wp_load_rect 𝒱₀ (c : Thread nD τ) none Set.univ (m := mR) (r := rRect d s j) (S := (rV d s j).view.set) (rV_set d s j).ge) $$ H; iintro H
  ispecialize Hk $$ %((mR.access (rRect d s j)).read (Elt F) f)
  iapply Hk $$ [] [H]
  · ipureintro; rw [← rV_read]; exact hf
  iapply (owns_mk c (rV d s j) q hf); iexact H

/-! ## The caches -/

/-- The activations' cache, the blocks of rows in `S` filled. -/
def XQ (c : Dev nD) (S : Finset (Fin 4)) : sProp 𝕄 :=
  iprop(∃ f : Buf (Elt F) ((c : Thread nD τ).loc cc0_scratch4),
    ⌜∀ k ∈ S, (mXq.access (rowOff k).rect).read (Elt F) f = castV (xB m c k)⌝ ∗ ((c : Thread nD τ).loc cc0_scratch4 ↦{fullShare} f))
/-- The weights' cache, the halves in `S` filled. -/
def WQ (c : Dev nD) (S : Finset (Fin 2)) : sProp 𝕄 :=
  iprop(∃ f : Buf (Elt F) ((c : Thread nD τ).loc cc0_scratch5),
    ⌜∀ d ∈ S, (mWq.access (wRect d)).read (Elt F) f = castV (wB m c d)⌝ ∗ ((c : Thread nD τ).loc cc0_scratch5 ↦{fullShare} f))

theorem row_disjoint {k k' : Fin 4} (h : k ≠ k') : Disjoint (mXq.access (rowOff k).rect).set ((mXq.access (rowOff k').rect).setOn Finset.univ) := by
  rw [View.setOn_univ, View.set_slice, View.set_slice, Finset.disjoint_map]
  refine Rect.unit_disjoint 0 ?_
  show 1024 * k.val + 1024 ≤ 1024 * k'.val ∨ 1024 * k'.val + 1024 ≤ 1024 * k.val
  have : k.val ≠ k'.val := fun h' => h (Fin.ext h')
  omega
theorem half_disjoint {d d' : Fin 2} (h : d ≠ d') : Disjoint (mWq.access (wRect d)).set ((mWq.access (wRect d')).setOn Finset.univ) := by
  rw [View.setOn_univ, View.set_slice, View.set_slice, Finset.disjoint_map]
  refine Rect.unit_disjoint 1 ?_
  show 1024 * d.val + 1024 ≤ 1024 * d'.val ∨ 1024 * d'.val + 1024 ≤ 1024 * d.val
  have : d.val ≠ d'.val := fun h' => h (Fin.ext h')
  omega

theorem wp_castX (c : Dev nD) (b : Fin 2) (p : RowOff) (k : Fin 4) (hk : p = rowOff k) (hp : p.rect.PackedRows (EltTy.packing .fp8e4m3))
    (S : Finset (Fin 4)) (kt : P F) (Q : PUnit → sProp 𝕄) :
    iprop(owns (c : Thread nD τ) (tV b) fullShare (xB m c k) ∗ XQ m c S)
      ⊢ iprop((owns (c : Thread nD τ) (tV b) fullShare (xB m c k) ∗ XQ m c (insert k S) -∗ WP c kt Q) -∗ WP c (castX b p hp kt) Q) := by
  subst hk
  unfold castX WP XQ
  conv_lhs => unfold owns
  iintro ⟨⟨%f, %hf, H⟩, ⟨%g, %hg, Hg⟩⟩ Hk
  iapply (wp_load_rect 𝒱₀ (c : Thread nD τ) none Set.univ (m := mT) (r := tRect b) (S := (tV b).view.set) (tV_set b).ge) $$ H; iintro H
  iapply (wp_load_rect 𝒱₀ (c : Thread nD τ) none Set.univ (m := mXq) (r := (rowOff k).rect) (Finset.subset_univ _)) $$ Hg; iintro Hg
  iapply (wp_store 𝒱₀ (c : Thread nD τ) none Set.univ (m := mXq) (r := (rowOff k).rect) (Mk := Finset.univ) (Finset.subset_univ _)) $$ Hg; iintro Hg
  iapply Hk
  isplitl [H]; · iapply (owns_mk c (tV b) fullShare hf); iexact H
  iexists _
  isplitr
  rotate_left
  · iexact Hg
  ipureintro
  intro k' hk'
  by_cases h : k' = k
  · subst h
    rw [View.read_write_univ, ← hf, tV_read]; rfl
  · rw [View.read_slice_write_slice_of_disjoint _ _ _ _ _ (row_disjoint h)]
    exact hg k' ((Finset.mem_insert.mp hk').resolve_left h)

theorem wp_castW (c : Dev nD) (b d : Fin 2) (S : Finset (Fin 2)) (kt : P F) (Q : PUnit → sProp 𝕄) :
    iprop(owns (c : Thread nD τ) (tV b) fullShare (wB m c d) ∗ WQ m c S)
      ⊢ iprop((owns (c : Thread nD τ) (tV b) fullShare (wB m c d) ∗ WQ m c (insert d S) -∗ WP c kt Q) -∗ WP c (castW b d kt) Q) := by
  unfold castW WP WQ
  conv_lhs => unfold owns
  iintro ⟨⟨%f, %hf, H⟩, ⟨%g, %hg, Hg⟩⟩ Hk
  iapply (wp_load_rect 𝒱₀ (c : Thread nD τ) none Set.univ (m := mT) (r := tRect b) (S := (tV b).view.set) (tV_set b).ge) $$ H; iintro H
  iapply (wp_load_rect 𝒱₀ (c : Thread nD τ) none Set.univ (m := mWq) (r := wRect d) (Finset.subset_univ _)) $$ Hg; iintro Hg
  iapply (wp_store 𝒱₀ (c : Thread nD τ) none Set.univ (m := mWq) (r := wRect d) (Mk := Finset.univ) (Finset.subset_univ _)) $$ Hg; iintro Hg
  iapply Hk
  isplitl [H]; · iapply (owns_mk c (tV b) fullShare hf); iexact H
  iexists _
  isplitr
  rotate_left
  · iexact Hg
  ipureintro
  intro d' hd'
  by_cases h : d' = d
  · subst h
    rw [View.read_write_univ, ← hf, tV_read]; rfl
  · rw [View.read_slice_write_slice_of_disjoint _ _ _ _ _ (half_disjoint h)]
    exact hg d' ((Finset.mem_insert.mp hd').resolve_left h)

/-! ## The result -/

/-- What the result's buffer holds once `q` products and `n` finished sub-blocks are stored. -/
def Spec (c : Dev nD) (q n : ℕ) (f : mO.view.ty.Contents (Elt F)) : Prop :=
  ∀ (d : Fin 2) (e j : Fin 4),
    (8 * ((e.val + 1) % 4) + 2 * j.val + d.val < n → (mO.access (subOff (chunk c d e) j d).rect).read (Elt F) f = res m c d e j) ∧
    (n ≤ 8 * ((e.val + 1) % 4) + 2 * j.val + d.val → 2 * e.val + d.val < q →
      (mO.access (subOff (chunk c d e) j d).rect).read (Elt F) f = blkS m c (chunk c d e) d j)

def Out (c : Dev nD) (q n : ℕ) : sProp 𝕄 :=
  iprop(∃ f : Buf (Elt F) ((c : Thread nD τ).loc cc0_stg2_0), ⌜Spec m c q n f⌝ ∗ ((c : Thread nD τ).loc cc0_stg2_0 ↦{fullShare} f))

theorem chunk_inj : ∀ (c : Dev nD) (d : Fin 2) (e e' : Fin 4), chunk c d e = chunk c d e' → e = e' := by decide

theorem sub_disjoint {k k' j j' : Fin 4} {d d' : Fin 2} (h : ¬(k = k' ∧ j = j' ∧ d = d')) :
    Disjoint (mO.access (subOff k j d).rect).set ((mO.access (subOff k' j' d').rect).setOn Finset.univ) := by
  rw [View.setOn_univ, View.set_slice, View.set_slice, Finset.disjoint_map]
  by_cases hd : d = d'
  · refine Rect.unit_disjoint 0 ?_
    show 1024 * k.val + 256 * j.val + 256 ≤ 1024 * k'.val + 256 * j'.val ∨ 1024 * k'.val + 256 * j'.val + 256 ≤ 1024 * k.val + 256 * j.val
    have : ¬(k.val = k'.val ∧ j.val = j'.val) := fun h' => h ⟨Fin.ext h'.1, Fin.ext h'.2, hd⟩
    omega
  · refine Rect.unit_disjoint 1 ?_
    show 1024 * d.val + 1024 ≤ 1024 * d'.val ∨ 1024 * d'.val + 1024 ≤ 1024 * d.val
    have : d.val ≠ d'.val := fun h' => hd (Fin.ext h')
    omega

theorem blk_disjoint {k k' j : Fin 4} {d d' : Fin 2} (h : ¬(k = k' ∧ d = d')) :
    Disjoint (mO.access (subOff k j d).rect).set ((mO.access (blkOff k' d').rect).setOn Finset.univ) := by
  rw [View.setOn_univ, View.set_slice, View.set_slice, Finset.disjoint_map]
  by_cases hd : d = d'
  · refine Rect.unit_disjoint 0 ?_
    show 1024 * k.val + 256 * j.val + 256 ≤ 1024 * k'.val ∨ 1024 * k'.val + 1024 ≤ 1024 * k.val + 256 * j.val
    have : k.val ≠ k'.val := fun h' => h ⟨Fin.ext h', hd⟩
    omega
  · refine Rect.unit_disjoint 1 ?_
    show 1024 * d.val + 1024 ≤ 1024 * d'.val ∨ 1024 * d'.val + 1024 ≤ 1024 * d.val
    have : d.val ≠ d'.val := fun h' => hd (Fin.ext h')
    omega

theorem sub_in_blk (k j : Fin 4) (d : Fin 2) (x : S256x1024.Idx) :
    (subOff k j d).rect.emb x = (blkOff k d).rect.emb ((Rect.unit (s := S1024x1024) ![256 * j.val, 0] S256x1024.size (inInb j)).emb x) := by
  refine funext fun a => Fin.ext ?_
  fin_cases a
  · show 1024 * k.val + 256 * j.val + 1 * (x 0).val = 1024 * k.val + 1 * (256 * j.val + 1 * (x 0).val); omega
  · show 1024 * d.val + 1 * (x 1).val = 1024 * d.val + 1 * (0 + 1 * (x 1).val); omega

theorem spec_put (c : Dev nD) (d : Fin 2) (e j : Fin 4) (q n : ℕ) (hn : n = 8 * ((e.val + 1) % 4) + 2 * j.val + d.val)
    {f : mO.view.ty.Contents (Elt F)} (hf : Spec m c q n f) :
    Spec m c q (n + 1) ((mO.access (subOff (chunk c d e) j d).rect).write (Elt F) f (res m c d e j) Finset.univ) := by
  intro d' e' j'
  by_cases h : e' = e ∧ j' = j ∧ d' = d
  · obtain ⟨rfl, rfl, rfl⟩ := h
    exact ⟨fun _ => View.read_write_univ _ _, fun h' => by omega⟩
  · rw [View.read_slice_write_slice_of_disjoint _ _ _ _ _ (sub_disjoint fun h' => h (by
      obtain ⟨h1, h2, h3⟩ := h'
      subst h3
      exact ⟨chunk_inj _ _ _ _ h1, h2, rfl⟩))]
    have hne : 8 * ((e'.val + 1) % 4) + 2 * j'.val + d'.val ≠ n := fun h' => h (by
      have he : e'.val = e.val := by omega
      have hj : j'.val = j.val := by omega
      have hd : d'.val = d.val := by omega
      exact ⟨Fin.ext he, Fin.ext hj, Fin.ext hd⟩)
    exact ⟨fun h' => (hf d' e' j').1 (by omega), fun h' => (hf d' e' j').2 (by omega)⟩

theorem spec_dot (c : Dev nD) (d : Fin 2) (e : Fin 4) (q : ℕ) (hq : q = 2 * e.val + d.val)
    {f : mO.view.ty.Contents (Elt F)} (hf : Spec m c q 0 f) :
    Spec m c (q + 1) 0 ((mO.access (blkOff (chunk c d e) d).rect).write (Elt F) f (blk m c (chunk c d e) d) Finset.univ) := by
  intro d' e' j'
  refine ⟨fun h => absurd h (Nat.not_lt_zero _), fun _ h' => ?_⟩
  by_cases h : e' = e ∧ d' = d
  · obtain ⟨rfl, rfl⟩ := h
    funext x
    unfold blkS
    rw [View.read_apply]
    show _root_.cast _ ((mO.access (blkOff (chunk c d' e') d').rect).write (Elt F) f _ Finset.univ (mO.view.emb ((subOff (chunk c d' e') j' d').rect.emb x))) = _
    rw [sub_in_blk]
    exact View.read_slice_write_emb (v := mO.view) (blkOff (chunk c d' e') d').rect f _ (Finset.mem_univ _)
  · rw [View.read_slice_write_slice_of_disjoint _ _ _ _ _ (blk_disjoint fun h' => h (by
      obtain ⟨h1, h2⟩ := h'
      subst h2
      exact ⟨chunk_inj _ _ _ _ h1, rfl⟩))]
    refine (hf d' e' j').2 (Nat.zero_le _) ?_
    have : ¬(e'.val = e.val ∧ d'.val = d.val) := fun h' => h ⟨Fin.ext h'.1, Fin.ext h'.2⟩
    omega

theorem wp_readO (c : Dev nD) (p : SubOff) (d : Fin 2) (e j : Fin 4) (hp : p = subOff (chunk c d e) j d) (q n : ℕ)
    (hn : n ≤ 8 * ((e.val + 1) % 4) + 2 * j.val + d.val) (hq : 2 * e.val + d.val < q)
    (k : Vec F S256x1024 .f32 → P F) (Q : PUnit → sProp 𝕄) :
    Out m c q n ⊢ iprop((Out m c q n -∗ WP c (k (blkS m c (chunk c d e) d j)) Q) -∗ WP c (readO p k) Q) := by
  subst hp
  unfold readO WP Out
  iintro ⟨%f, %hf, H⟩ Hk
  iapply (wp_load_rect 𝒱₀ (c : Thread nD τ) none Set.univ (m := mO) (r := (subOff (chunk c d e) j d).rect) (Finset.subset_univ _)) $$ H; iintro H
  rw [((hf d e j).2 hn hq)]
  iapply Hk
  iexists f
  isplitr; · ipureintro; exact hf
  iexact H

theorem wp_putO (c : Dev nD) (p : SubOff) (d : Fin 2) (e j : Fin 4) (hp : p = subOff (chunk c d e) j d) (q n : ℕ)
    (hn : n = 8 * ((e.val + 1) % 4) + 2 * j.val + d.val) (y : Vec F S256x1024 .f32) (hy : y = res m c d e j) (k : P F) (Q : PUnit → sProp 𝕄) :
    Out m c q n ⊢ iprop((Out m c q (n + 1) -∗ WP c k Q) -∗ WP c (putO p y k) Q) := by
  subst hp hy
  unfold putO WP Out
  iintro ⟨%f, %hf, H⟩ Hk
  iapply (wp_load_rect 𝒱₀ (c : Thread nD τ) none Set.univ (m := mO) (r := (subOff (chunk c d e) j d).rect) (Finset.subset_univ _)) $$ H; iintro H
  iapply (wp_store 𝒱₀ (c : Thread nD τ) none Set.univ (m := mO) (r := (subOff (chunk c d e) j d).rect) (Mk := Finset.univ) (Finset.subset_univ _)) $$ H; iintro H
  iapply Hk
  iexists _
  isplitr
  rotate_left
  · iexact H
  ipureintro
  exact spec_put m c d e j q n hn hf

theorem wp_dotS (c : Dev nD) (p : RowOff) (b : BlkOff) (d : Fin 2) (e : Fin 4) (hp : p = rowOff (chunk c d e)) (hb : b = blkOff (chunk c d e) d)
    (q : ℕ) (hq : q = 2 * e.val + d.val) (S : Finset (Fin 4)) (hS : chunk c d e ∈ S) (S' : Finset (Fin 2)) (hS' : d ∈ S') (k : P F) (Q : PUnit → sProp 𝕄) :
    iprop(XQ m c S ∗ WQ m c S' ∗ Out m c q 0)
      ⊢ iprop((XQ m c S ∗ WQ m c S' ∗ Out m c (q + 1) 0 -∗ WP c k Q) -∗ WP c (dotS p d b k) Q) := by
  subst hp hb
  unfold dotS WP Out XQ WQ
  iintro ⟨⟨%fx, %hx, Hx⟩, ⟨%fw, %hw, Hw⟩, ⟨%f, %hf, H⟩⟩ Hk
  iapply (wp_load_rect 𝒱₀ (c : Thread nD τ) none Set.univ (m := mXq) (r := (rowOff (chunk c d e)).rect) (Finset.subset_univ _)) $$ Hx; iintro Hx
  iapply (wp_load_rect 𝒱₀ (c : Thread nD τ) none Set.univ (m := mWq) (r := wRect d) (Finset.subset_univ _)) $$ Hw; iintro Hw
  iapply (wp_load_rect 𝒱₀ (c : Thread nD τ) none Set.univ (m := mO) (r := (blkOff (chunk c d e) d).rect) (Finset.subset_univ _)) $$ H; iintro H
  iapply (wp_store 𝒱₀ (c : Thread nD τ) none Set.univ (m := mO) (r := (blkOff (chunk c d e) d).rect) (Mk := Finset.univ) (Finset.subset_univ _)) $$ H; iintro H
  rw [hx _ hS, hw _ hS']
  iapply Hk
  isplitl [Hx]
  · iexists fx; isplitr; · ipureintro; exact hx
    iexact Hx
  isplitl [Hw]
  · iexists fw; isplitr; · ipureintro; exact hw
    iexact Hw
  iexists _
  isplitr
  rotate_left
  · iexact H
  ipureintro
  exact spec_dot m c d e q hq hf

end Cert.KernelIdeal.Roll

end
-- ==== Proof.Hops.lean ====
/- The hops: each lane (a direction and a sub-chunk) taken one hop on, the four sub-chunks in turn,
   and the body after the barrier as a whole. -/
module

public import proofs.«01_k».proof.Proof.Steps

@[expose] public section

noncomputable section

namespace Cert.KernelIdeal.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Bool (Elt F) ℕ UU ℕ

variable (m : (ℓ : Loc nD τ sig) → Buf (Elt F) ℓ) (K : Dev nD × Fin 35 → ℕ)

/-! ## Lanes -/

def tokS (c : Dev nD) (d : Fin 2) (j : Fin 4) (i : ℕ) : sProp 𝕄 := dutyTok ER (sCell c d j) i 0
def tokR (c : Dev nD) (d : Fin 2) (j : Fin 4) (i : ℕ) : sProp 𝕄 := dutyTok ER (rCell (nbr d c) d (sl i) j) (i / 3) 0
def credR (c : Dev nD) (d : Fin 2) (j : Fin 4) (i : ℕ) : sProp 𝕄 := cred (tallyAt (rCell c d (sl i) j) (decide (0 < i / 3)) N)
def posR (c : Dev nD) (d : Fin 2) (j : Fin 4) (i : ℕ) : sProp 𝕄 := atPos ER (rCell c d (sl i) j) (i / 3) ∅ 0

/-- The receiving side, `w` landings waited for. -/
def LaneR (c : Dev nD) (d : Fin 2) (j : Fin 4) (w : ℕ) : sProp 𝕄 :=
  iprop(bigSep (Finset.Ico w 6) (credR c d j) ∗ bigSep (Finset.Ico w (w + 3)) (posR c d j))
/-- The sending side, before the send of hop `h`. -/
def LaneT (c : Dev nD) (d : Fin 2) (j : Fin 4) (h : ℕ) : sProp 𝕄 :=
  iprop((bigSep (Finset.Ico h 6) (tokS c d j) ∗ bigSep (Finset.Ico h 6) (tokR c d j)) ∗ atPos ER (sCell c d j) h ∅ 0 ∗ reached ER (sCell c d j) h)
/-- The sending side, the send of hop `h` under way. -/
def LaneS (c : Dev nD) (d : Fin 2) (j : Fin 4) (h : ℕ) : sProp 𝕄 :=
  iprop((bigSep (Finset.Ico (h + 1) 6) (tokS c d j) ∗ bigSep (Finset.Ico (h + 1) 6) (tokR c d j)) ∗ atPos ER (sCell c d j) h ∅ 0
    ∗ cred (tallyAt (sCell c d j) false N))

theorem sl_add (w : ℕ) : sl (w + 3) = sl w := Fin.ext (by show (w + 3) % 3 = w % 3; omega)
theorem sl_round (w : ℕ) : (sl w).val + 3 * (w / 3) = w := by show w % 3 + _ = _; omega

theorem lane_waitR (c : Dev nD) (sr : Memref sig .tc .vmem S256x1024 .bf16) (hs : sr.view.WordExact) (d : Fin 2) (s : Fin 3) (j : Fin 4)
    (w t : ℕ) (hw : w < 6) (hsl : sl w = s) (ht : w < t / 8) (k : P F) (Q : PUnit → sProp 𝕄) :
    iprop(ctx m K ∗ LaneR c d j w ∗ Ow c t)
      ⊢ iprop((LaneR c d j (w + 1) ∗ Ow c t ∗ reached ER (rCell c d s j) (w / 3 + 1) ∗ rPay m c d j s w -∗ WP c k Q)
          -∗ WP c (waitR sr hs d s j k) Q) := by
  subst hsl
  have hp : (posR c d j (w + 3) : sProp 𝕄) = atPos ER (rCell c d (sl w) j) (w / 3 + 1) ∅ 0 := by
    unfold posR; rw [sl_add, show (w + 3) / 3 = w / 3 + 1 by omega]
  unfold LaneR
  rw [bigSep_Ico_succ_bot hw, bigSep_Ico_succ_bot (show w < w + 3 by omega), show w + 1 + 3 = w + 3 + 1 by omega,
    bigSep_Ico_succ_top (show w + 1 ≤ w + 3 by omega), hp]
  iintro ⟨#Hc, ⟨⟨Hcr, Hcs⟩, Hat, Hats⟩, HO⟩ Hk
  iapply (wp_waitR m K c sr hs d (sl w) j (w / 3) t (by omega) (by rw [sl_round]; exact ht) k Q) $$ [Hcr HO Hat]
  · isplitr; · iexact Hc
    isplitl [Hcr]; · unfold credR; iexact Hcr
    isplitl [HO]; · iexact HO
    unfold posR; iexact Hat
  rw [sl_round]
  iintro ⟨HO, Hat, Hre, Hp⟩
  iapply Hk
  isplitl [Hcs Hat Hats]
  · isplitl [Hcs]; · iexact Hcs
    isplitl [Hat] <;> iassumption
  isplitl [HO]; · iexact HO
  isplitl [Hre] <;> iassumption

theorem lane_waitS (c : Dev nD) (sr : Memref sig .tc .vmem S256x1024 .bf16) (hs : sr.view.WordExact) (hN : sr.view.dmaCredit = N)
    (d : Fin 2) (s : Fin 3) (j : Fin 4) (w t : ℕ) (hw : w < 6) (k : P F) (Q : PUnit → sProp 𝕄) :
    iprop(ctx m K ∗ LaneS c d j w ∗ Ow c t)
      ⊢ iprop((LaneT c d j (w + 1) ∗ Ow c t ∗ sPay c d j w -∗ WP c k Q) -∗ WP c (waitS sr hs d s j k) Q) := by
  unfold LaneS LaneT
  iintro ⟨#Hc, ⟨Ht, Hat, Hcr⟩, HO⟩ Hk
  iapply (wp_waitS m K c sr hs hN d s j w t hw k Q) $$ [Hcr HO Hat]
  · isplitr; · iexact Hc
    isplitl [Hcr]; · iexact Hcr
    isplitl [HO] <;> iassumption
  iintro ⟨HO, Hat, Hre, Hp⟩
  iapply Hk
  isplitl [Ht Hat Hre]
  · isplitl [Ht]; · iexact Ht
    isplitl [Hat] <;> iassumption
  isplitl [HO] <;> iassumption

theorem lane_send (c : Dev nD) (sr : Memref sig .tc .vmem S256x1024 .bf16) (hs : sr.view.WordExact) (q : PosShare TreeShare)
    (d : Fin 2) (s : Fin 3) (j : Fin 4) (h : ℕ) (hh : h < 6) (hsl : sl h = s)
    (hpay : ∀ f, (sr.view.loc (c : Thread nD τ) ↦[sr.view.set]{q} f : sProp 𝕄) ⊢ sPay c d j h)
    (n : Dev nD) (hn : n = nbr d c) (k : P F) (Q : PUnit → sProp 𝕄) :
    iprop(ctx m K ∗ LaneT c d j h ∗ owns (c : Thread nD τ) sr q (SV m d j h c) ∗ slot (nbr d c) d s j (h / 3) ∗ hand c j d h
        ∗ Ow c (8 * h + 2 * j.val + d.val))
      ⊢ iprop((LaneS c d j h ∗ Ow c (8 * h + 2 * j.val + d.val + 1) -∗ WP c k Q) -∗ WP c (send sr hs d s j n k) Q) := by
  unfold LaneT LaneS
  rw [bigSep_Ico_succ_bot hh, bigSep_Ico_succ_bot hh]
  iintro ⟨#Hc, ⟨⟨⟨Ht, Hts⟩, Htr, Htrs⟩, Hat, Hre⟩, Hs, Hsl, Hh, HO⟩ Hk
  iapply (wp_send m K c sr hs q d s j h hh hsl hpay n hn k Q) $$ [Ht Htr Hre Hs Hsl Hh HO]
  · isplitr; · iexact Hc
    isplitl [Hs]; · iexact Hs
    isplitl [Hsl]; · iexact Hsl
    isplitl [Hh]; · iexact Hh
    isplitl [HO]; · iexact HO
    isplitl [Ht]; · unfold tokS; iexact Ht
    isplitl [Hre]; · iexact Hre
    rw [← hsl]; unfold tokR; iexact Htr
  iintro ⟨Hcr, HO⟩
  iapply Hk
  isplitr [HO]
  · isplitl [Hts Htrs]; · isplitl [Hts] <;> iassumption
    isplitl [Hat] <;> iassumption
  iexact HO

/-! ## One direction, one hop -/

theorem owns_anyR (c : Dev nD) (d : Fin 2) (s : Fin 3) (j : Fin 4) (q : PosShare TreeShare) (X : FVec F S256x1024 .bf16) :
    owns (c : Thread nD τ) (rV d s j) q X ⊢ anyR c d s j q := by
  unfold owns anyR; iintro ⟨%f, -, H⟩; iexists f; iexact H
theorem sV_any (c : Dev nD) (d : Fin 2) (j : Fin 4) (f) :
    ((sV d j).view.loc (c : Thread nD τ) ↦[(sV d j).view.set]{fullShare} f : sProp 𝕄) ⊢ anyS c d j := by
  unfold anyS; iintro H; iexists f; iexact H
theorem rV_any (c : Dev nD) (d : Fin 2) (s : Fin 3) (j : Fin 4) (q) (f) :
    ((rV d s j).view.loc (c : Thread nD τ) ↦[(rV d s j).view.set]{q} f : sProp 𝕄) ⊢ anyR c d s j q := by
  unfold anyR; iintro H; iexists f; iexact H

/-- One lane before its first send. -/
def Half0 (c : Dev nD) (d : Fin 2) (j : Fin 4) : sProp 𝕄 :=
  iprop(LaneR c d j 0 ∗ LaneT c d j 0 ∗ anyS c d j ∗ slot (nbr d c) d 0 j 0 ∗ slot (nbr d c) d 1 j 0 ∗ slot (nbr d c) d 2 j 0)
/-- And after it. -/
def Half1 (c : Dev nD) (d : Fin 2) (j : Fin 4) : sProp 𝕄 :=
  iprop((LaneR c d j 0 ∗ LaneS c d j 0) ∗ slot (nbr d c) d 1 j 0 ∗ slot (nbr d c) d 2 j 0)

theorem hand0 (c : Dev nD) (j : Fin 4) (d : Fin 2) : (hand c j d 0 : sProp 𝕄) = iprop(emp) := by fin_cases d <;> rfl

theorem wp_step0 (c : Dev nD) (d : Fin 2) (j : Fin 4) (p : SubOff) (hp : p = subOff (chunk c d 0) j d) (n : Dev nD) (hn : n = nbr d c)
    (q : ℕ) (hq : d.val < q) (k : P F) (Q : PUnit → sProp 𝕄) :
    iprop(ctx m K ∗ Half0 c d j ∗ Ow c (2 * j.val + d.val) ∗ Out m c q 0)
      ⊢ iprop((Half1 c d j ∗ Ow c (2 * j.val + d.val + 1) ∗ Out m c q 0 -∗ WP c k Q) -∗ WP c (step0 d j p n k) Q) := by
  unfold Half0 Half1 step0
  iintro ⟨#Hc, ⟨HR, HT, HS, H0, H12⟩, HO, Hout⟩ Hk
  iapply (wp_readO m c p d 0 j hp q 0 (Nat.zero_le _) (by simpa using hq)) $$ Hout; iintro Hout
  rw [show sendP (blkS m c (chunk c d ((0 : Fin 4) : ℕ)) d j) = shapeCast S1x1x256x1024 (SV m d j 0 c) shapeCasts_S256x1024_S1x1x256x1024 from rfl]
  iapply (wp_fill c d j (SV m d j 0 c)) $$ HS; iintro HS
  iapply (lane_send m K c (sV d j) (sWE d j) fullShare d 0 j 0 (by decide) rfl (fun f => sV_any c d j f) n hn k Q) $$ [HT HS H0 HO]
  · isplitr; · iexact Hc
    isplitl [HT]; · iexact HT
    isplitl [HS]; · iexact HS
    isplitl [H0]; · iexact H0
    isplitr; · rw [hand0]; iempintro
    rw [Nat.mul_zero, Nat.zero_add]; iexact HO
  rw [Nat.mul_zero, Nat.zero_add]
  iintro ⟨HLs, HO⟩
  iapply Hk
  isplitr [HO Hout]
  · isplitr [H12]
    · isplitl [HR] <;> iassumption
    iexact H12
  isplitl [HO] <;> iassumption

theorem wp_stepA (c : Dev nD) (d : Fin 2) (s t : Fin 3) (j : Fin 4) (p : SubOff) (w : ℕ) (e : Fin 4) (hw : w < 2) (he : e.val = w + 1)
    (hs : sl w = s) (ht : sl (w + 1) = t) (hp : p = subOff (chunk c d e) j d) (n : Dev nD) (hn : n = nbr d c)
    (hV : SV m d j (w + 1) c = rndV (addV (blkS m c (chunk c d e) d j) (SV m d j w (src d c))))
    (q : ℕ) (hq : 2 * e.val + d.val < q) (k : P F) (Q : PUnit → sProp 𝕄) :
    iprop(ctx m K ∗ (LaneR c d j w ∗ LaneS c d j w) ∗ slot (nbr d c) d t j 0 ∗ hand c j d (w + 1) ∗ Ow c (8 * (w + 1) + 2 * j.val + d.val) ∗ Out m c q 0)
      ⊢ iprop(((LaneR c d j (w + 1) ∗ LaneS c d j (w + 1)) ∗ slot c d s j 1 ∗ hand (src d c) j d w ∗ Ow c (8 * (w + 1) + 2 * j.val + d.val + 1) ∗ Out m c q 0
            -∗ WP c k Q) -∗ WP c (stepA d s t j p n k) Q) := by
  unfold stepA
  iintro ⟨#Hc, ⟨HR, HS⟩, Hsl, Hh, HO, Hout⟩ Hk
  iapply (lane_waitR m K c (sV d j) (sWE d j) d s j w (8 * (w + 1) + 2 * j.val + d.val) (by omega) hs (by omega)) $$ [HR HO]
  · isplitr; · iexact Hc
    isplitl [HR] <;> iassumption
  rw [show w / 3 + 1 = 1 by omega]
  unfold rPay
  iintro ⟨HR, HO, Hre, Hown, Hh'⟩
  iapply (lane_waitS m K c (sV d j) (sWE d j) (N_s d j) d s j w (8 * (w + 1) + 2 * j.val + d.val) (by omega)) $$ [HS HO]
  · isplitr; · iexact Hc
    isplitl [HS] <;> iassumption
  rw [show (sPay c d j w : sProp 𝕄) = anyS c d j by unfold sPay; split <;> first | rfl | omega]
  iintro ⟨HT, HO, HS⟩
  iapply (wp_readO m c p d e j hp q 0 (Nat.zero_le _) hq) $$ Hout; iintro Hout
  iapply (wp_readR c d s j fullShare _) $$ Hown
  iintro %x %hx Hown
  rw [show packP (sumP (blkS m c (chunk c d e) d j) x)
    = shapeCast S1x1x256x1024 (rndV (addV (blkS m c (chunk c d e) d j) (shapeCast S256x1024 x shapeCasts_S1x1x1x256x1024_S256x1024))) shapeCasts_S256x1024_S1x1x256x1024 from rfl,
    hx, ← hV]
  iapply (wp_fill c d j (SV m d j (w + 1) c)) $$ HS; iintro HS
  iapply (lane_send m K c (sV d j) (sWE d j) fullShare d t j (w + 1) (by omega) ht
    (fun f => by rw [show (sPay c d j (w + 1) : sProp 𝕄) = anyS c d j by unfold sPay; split <;> first | rfl | omega]; exact sV_any c d j f) n hn k Q) $$ [HT HS Hsl Hh HO]
  · isplitr; · iexact Hc
    isplitl [HT]; · iexact HT
    isplitl [HS]; · iexact HS
    isplitl [Hsl]; · rw [show (w + 1) / 3 = 0 by omega]; iexact Hsl
    isplitl [Hh] <;> iassumption
  iintro ⟨HS, HO⟩
  iapply Hk
  isplitl [HR HS]; · isplitl [HR] <;> iassumption
  isplitl [Hown Hre]
  · unfold slot
    isplitl [Hown]; · iapply (owns_anyR c d s j fullShare _); iexact Hown
    iexact Hre
  isplitl [Hh']; · iexact Hh'
  isplitl [HO] <;> iassumption

theorem wp_stepY (c : Dev nD) (d : Fin 2) (j : Fin 4) (p : SubOff) (hp : p = subOff (chunk c d 3) j d) (n : Dev nD) (hn : n = nbr d c)
    (i : ℕ) (hi : i ≤ 2 * j.val + d.val) (k : Vec F S256x1024 .f32 → P F) (Q : PUnit → sProp 𝕄) :
    iprop(ctx m K ∗ (LaneR c d j 2 ∗ LaneS c d j 2) ∗ slot (nbr d c) d 0 j 1 ∗ hand c j d 3 ∗ Ow c (24 + 2 * j.val + d.val) ∗ Out m c 8 i)
      ⊢ iprop(((LaneR c d j 3 ∗ LaneS c d j 3) ∗ slot c d 2 j 1 ∗ hand (src d c) j d 2 ∗ Ow c (24 + 2 * j.val + d.val + 1) ∗ Out m c 8 i
            -∗ WP c (k (Y m c d j)) Q) -∗ WP c (stepY (scl m c) d j p n k) Q) := by
  unfold stepY
  iintro ⟨#Hc, ⟨HR, HS⟩, Hsl, Hh, HO, Hout⟩ Hk
  iapply (lane_waitR m K c (sV d j) (sWE d j) d 2 j 2 (24 + 2 * j.val + d.val) (by omega) rfl (by omega)) $$ [HR HO]
  · isplitr; · iexact Hc
    isplitl [HR] <;> iassumption
  unfold rPay
  iintro ⟨HR, HO, Hre, Hown, Hh'⟩
  iapply (lane_waitS m K c (sV d j) (sWE d j) (N_s d j) d 2 j 2 (24 + 2 * j.val + d.val) (by omega)) $$ [HS HO]
  · isplitr; · iexact Hc
    isplitl [HS] <;> iassumption
  rw [show (sPay c d j 2 : sProp 𝕄) = anyS c d j from rfl]
  iintro ⟨HT, HO, HS⟩
  iapply (wp_readO m c p d 3 j hp 8 i (by simpa using hi) (by show 6 + d.val < 8; omega)) $$ Hout; iintro Hout
  iapply (wp_readR c d 2 j fullShare _) $$ Hown
  iintro %x %hx Hown
  rw [show finP (scl m c) (blkS m c (chunk c d ((3 : Fin 4) : ℕ)) d j) x
    = endV (scl m c) (blkS m c (chunk c d ((3 : Fin 4) : ℕ)) d j) (shapeCast S256x1024 x shapeCasts_S1x1x1x256x1024_S256x1024) from rfl,
    hx, show endV (scl m c) (blkS m c (chunk c d ((3 : Fin 4) : ℕ)) d j) (SV m d j 2 (src d c)) = Y m c d j from rfl,
    show packP (Y m c d j) = shapeCast S1x1x256x1024 (SV m d j 3 c) shapeCasts_S256x1024_S1x1x256x1024 from rfl]
  iapply (wp_fill c d j (SV m d j 3 c)) $$ HS; iintro HS
  iapply (lane_send m K c (sV d j) (sWE d j) fullShare d 0 j 3 (by omega) rfl (fun f => sV_any c d j f) n hn (k (Y m c d j)) Q) $$ [HT HS Hsl Hh HO]
  · isplitr; · iexact Hc
    isplitl [HT]; · iexact HT
    isplitl [HS]; · iexact HS
    isplitl [Hsl]; · iexact Hsl
    isplitl [Hh] <;> iassumption
  iintro ⟨HS, HO⟩
  iapply Hk
  isplitl [HR HS]; · isplitl [HR] <;> iassumption
  isplitl [Hown Hre]
  · unfold slot
    isplitl [Hown]; · iapply (owns_anyR c d 2 j fullShare _); iexact Hown
    iexact Hre
  isplitl [Hh']; · iexact Hh'
  isplitl [HO] <;> iassumption

theorem owns_halves (c : Dev nD) (d : Fin 2) (s : Fin 3) (j : Fin 4) (X : FVec F S256x1024 .bf16) :
    (owns (c : Thread nD τ) (rV d s j) fullShare X : sProp 𝕄)
      ⊢ iprop(owns (c : Thread nD τ) (rV d s j) fullShare.left X ∗ owns (c : Thread nD τ) (rV d s j) fullShare.right X) := by
  have h : (owns (c : Thread nD τ) (rV d s j) fullShare X : sProp 𝕄) ⊢ iprop(∃ f, ⌜(rV d s j).view.read (Elt F) f = X⌝
    ∗ ((rV d s j).view.loc (c : Thread nD τ) ↦[(rV d s j).view.set]{fullShare} f)) := by unfold owns; exact .rfl
  refine h.trans ?_
  iintro ⟨%f, %hf, H⟩
  ihave H' := ((pointsTo_share (PosShare.mem_left_op_right fullShare)).1) $$ H
  icases H' with ⟨H1, H2⟩
  isplitl [H1]
  · iapply (owns_mk c (rV d s j) _ hf); iexact H1
  iapply (owns_mk c (rV d s j) _ hf); iexact H2

theorem anyR_join (c : Dev nD) (d : Fin 2) (s : Fin 3) (j : Fin 4) :
    iprop(anyR c d s j fullShare.left ∗ anyR c d s j fullShare.right) ⊢ (anyR c d s j fullShare : sProp 𝕄) := by
  unfold anyR
  iintro ⟨⟨%f, H1⟩, ⟨%g, H2⟩⟩
  ihave %h := (pointsTo_agree) $$ [H1 H2]
  · isplitl [H1] <;> iassumption
  iexists f
  iapply ((pointsTo_share (PosShare.mem_left_op_right fullShare)).2)
  isplitl [H1]; · iexact H1
  rw [pointsTo_congr (f := f) (g := g) (fun i hi => (h i (Finset.mem_inter.2 ⟨hi, hi⟩)).1)]; iexact H2

theorem wp_stepF (c : Dev nD) (sr : Memref sig .tc .vmem S256x1024 .bf16) (hsr : sr.view.WordExact) (hN : sr.view.dmaCredit = N)
    (d : Fin 2) (s t : Fin 3) (j : Fin 4) (w : ℕ) (hw : w < 5) (hs : sl w = s) (ht : sl (w + 1) = t) (hr : (w + 1) / 3 = 1) (n : Dev nD) (hn : n = nbr d c)
    (hV : SV m d j (w + 1) c = SV m d j w (src d c)) (hpay : (sPay c d j (w + 1) : sProp 𝕄) = anyR c d s j fullShare.left)
    (k : P F) (Q : PUnit → sProp 𝕄) :
    iprop(ctx m K ∗ (LaneR c d j w ∗ LaneS c d j w) ∗ slot (nbr d c) d t j 1 ∗ hand c j d (w + 1) ∗ Ow c (8 * (w + 1) + 2 * j.val + d.val))
      ⊢ iprop(((LaneR c d j (w + 1) ∗ LaneS c d j (w + 1)) ∗ owns (c : Thread nD τ) (rV d s j) fullShare.right (SV m d j w (src d c))
            ∗ sPay c d j w ∗ hand (src d c) j d w ∗ Ow c (8 * (w + 1) + 2 * j.val + d.val + 1)
            -∗ WP c k Q) -∗ WP c (stepF sr hsr d s t j n k) Q) := by
  unfold stepF
  iintro ⟨#Hc, ⟨HR, HS⟩, Hsl, Hh, HO⟩ Hk
  iapply (lane_waitR m K c sr hsr d s j w (8 * (w + 1) + 2 * j.val + d.val) (by omega) hs (by omega)) $$ [HR HO]
  · isplitr; · iexact Hc
    isplitl [HR] <;> iassumption
  unfold rPay
  iintro ⟨HR, HO, -, Hown, Hh'⟩
  iapply (lane_waitS m K c sr hsr hN d s j w (8 * (w + 1) + 2 * j.val + d.val) (by omega)) $$ [HS HO]
  · isplitr; · iexact Hc
    isplitl [HS] <;> iassumption
  iintro ⟨HT, HO, HP⟩
  ihave Hown' := (owns_halves c d s j _) $$ Hown
  icases Hown' with ⟨Hl, Hr⟩
  iapply (lane_send m K c (rV d s j) (rWE d s j) fullShare.left d t j (w + 1) (by omega) ht
    (fun f => by rw [hpay]; exact rV_any c d s j _ f) n hn k Q) $$ [HT Hl Hsl Hh HO]
  · isplitr; · iexact Hc
    isplitl [HT]; · iexact HT
    isplitl [Hl]; · rw [hV]; iexact Hl
    isplitl [Hsl]; · rw [hr]; iexact Hsl
    isplitl [Hh] <;> iassumption
  iintro ⟨HS, HO⟩
  iapply Hk
  isplitl [HR HS]; · isplitl [HR] <;> iassumption
  isplitl [Hr]; · iexact Hr
  isplitl [HP]; · iexact HP
  isplitl [Hh']; · iexact Hh'
  iexact HO

theorem wp_outR (c : Dev nD) (d : Fin 2) (s : Fin 3) (e j : Fin 4) (p : SubOff) (hp : p = subOff (chunk c d e) j d) (sh : PosShare TreeShare)
    (X : FVec F S256x1024 .bf16) (hX : widV X = res m c d e j) (n : ℕ) (hn : n = 8 * ((e.val + 1) % 4) + 2 * j.val + d.val) (k : P F) (Q : PUnit → sProp 𝕄) :
    iprop(owns (c : Thread nD τ) (rV d s j) sh X ∗ Out m c 8 n)
      ⊢ iprop((anyR c d s j sh ∗ Out m c 8 (n + 1) -∗ WP c k Q) -∗ WP c (outR d s j p k) Q) := by
  unfold outR
  iintro ⟨Hown, Hout⟩ Hk
  iapply (wp_readR c d s j sh X) $$ Hown
  iintro %x %hx Hown
  iapply (wp_putO m c p d e j hp 8 n hn (extP x) (by
    rw [← hX, ← hx]; rfl)) $$ Hout; iintro Hout
  iapply Hk
  isplitl [Hown]; · iapply (owns_anyR c d s j sh _); iexact Hown
  iexact Hout

theorem wp_stepZ (c : Dev nD) (d : Fin 2) (j : Fin 4) (p : SubOff) (hp : p = subOff (chunk c d 2) j d) (n : ℕ) (hn : n = 24 + 2 * j.val + d.val)
    (k : P F) (Q : PUnit → sProp 𝕄) :
    iprop(ctx m K ∗ (LaneR c d j 5 ∗ LaneS c d j 5) ∗ anyR c d 1 j fullShare.right ∗ Ow c 48 ∗ Out m c 8 n)
      ⊢ iprop(((LaneR c d j 6 ∗ LaneT c d j 6) ∗ anyR c d 1 j fullShare ∗ anyR c d 2 j fullShare ∗ Ow c 48 ∗ Out m c 8 (n + 1) -∗ WP c k Q)
        -∗ WP c (stepZ d j p k) Q) := by
  unfold stepZ
  iintro ⟨#Hc, ⟨HR, HS⟩, H1, HO, Hout⟩ Hk
  iapply (lane_waitR m K c (rV d 1 j) (rWE d 1 j) d 2 j 5 48 (by omega) rfl (by omega)) $$ [HR HO]
  · isplitr; · iexact Hc
    isplitl [HR] <;> iassumption
  unfold rPay
  iintro ⟨HR, HO, -, Hown, -⟩
  iapply (wp_outR m c d 2 2 j p hp fullShare _ rfl n hn) $$ [Hown Hout]
  · isplitl [Hown] <;> iassumption
  iintro ⟨H2, Hout⟩
  iapply (lane_waitS m K c (rV d 1 j) (rWE d 1 j) (N_r d 1 j) d 2 j 5 48 (by omega)) $$ [HS HO]
  · isplitr; · iexact Hc
    isplitl [HS] <;> iassumption
  iintro ⟨HT, HO, HP⟩
  iapply Hk
  isplitl [HR HT]; · isplitl [HR] <;> iassumption
  isplitl [H1 HP]
  · iapply (anyR_join c d 1 j); isplitl [HP]; · iapply (show (sPay c d j 5 : sProp 𝕄) ⊢ anyR c d 1 j fullShare.left from .rfl); iexact HP
    iexact H1
  isplitl [H2]; · iexact H2
  isplitl [HO] <;> iassumption

/-! ## One column: a sub-chunk in both directions -/

def Lanes (c : Dev nD) (j : Fin 4) (w : ℕ) : sProp 𝕄 :=
  iprop((LaneR c 0 j w ∗ LaneS c 0 j w) ∗ (LaneR c 1 j w ∗ LaneS c 1 j w))
def Col0 (c : Dev nD) (j : Fin 4) : sProp 𝕄 := iprop(Half0 c 0 j ∗ Half0 c 1 j)
def Col1 (c : Dev nD) (j : Fin 4) : sProp 𝕄 := iprop(Half1 c 0 j ∗ Half1 c 1 j)
def Col2 (c : Dev nD) (j : Fin 4) : sProp 𝕄 :=
  iprop(Lanes c j 1 ∗ slot (nbr 0 c) 0 2 j 0 ∗ slot (nbr 1 c) 1 2 j 0 ∗ slot c 1 0 j 1)
def Col3 (c : Dev nD) (j : Fin 4) : sProp 𝕄 :=
  iprop(Lanes c j 2 ∗ slot c 1 1 j 1 ∗ slot (nbr 0 c) 0 0 j 1)
def Col4 (c : Dev nD) (j : Fin 4) : sProp 𝕄 :=
  iprop(Lanes c j 3 ∗ slot c 1 2 j 1 ∗ slot (nbr 0 c) 0 1 j 1)
def Col5 (c : Dev nD) (j : Fin 4) : sProp 𝕄 :=
  iprop(Lanes c j 4 ∗ (anyS c 0 j ∗ anyS c 1 j) ∗ slot (nbr 0 c) 0 2 j 1 ∗ anyR c 0 0 j fullShare.right ∗ anyR c 1 0 j fullShare.right)
def Col6 (c : Dev nD) (j : Fin 4) : sProp 𝕄 :=
  iprop(Lanes c j 5 ∗ (anyS c 0 j ∗ anyS c 1 j) ∗ (anyR c 0 0 j fullShare ∗ anyR c 1 0 j fullShare)
    ∗ anyR c 0 1 j fullShare.right ∗ anyR c 1 1 j fullShare.right)
def ColE (c : Dev nD) (j : Fin 4) : sProp 𝕄 :=
  iprop(((LaneR c 0 j 6 ∗ LaneT c 0 j 6) ∗ (LaneR c 1 j 6 ∗ LaneT c 1 j 6)) ∗ (anyS c 0 j ∗ anyS c 1 j)
    ∗ (anyR c 0 0 j fullShare ∗ anyR c 1 0 j fullShare) ∗ (anyR c 0 1 j fullShare ∗ anyR c 1 1 j fullShare)
    ∗ (anyR c 0 2 j fullShare ∗ anyR c 1 2 j fullShare))

theorem wp_col1 (c : Dev nD) (j : Fin 4) (k : P F) (Q : PUnit → sProp 𝕄) :
    iprop(ctx m K ∗ Col1 c j ∗ (Ow c (8 + 2 * j.val) ∗ Out m c 4 0))
      ⊢ iprop((Col2 c j ∗ (Ow c (8 + 2 * (j.val + 1)) ∗ Out m c 4 0) -∗ WP c k Q)
        -∗ WP c (stepA 0 0 1 j (so11 c 0 j) (rgt c) <| stepA 1 0 1 j (so12 c 0 0 j) (lft c) k) Q) := by
  unfold Col1 Half1 Col2 Lanes
  iintro ⟨#Hc, ⟨⟨⟨HR0, HS0⟩, H01, H02⟩, ⟨HR1, HS1⟩, H11, H12⟩, HO, Hout⟩ Hk
  iapply (wp_stepA m K c 0 0 1 j _ 0 1 (by omega) rfl rfl rfl (so11_eq c 0 j) _ (rgt_eq c) rfl 4 (by decide)) $$ [HR0 HS0 H01 HO Hout]
  · isplitr; · iexact Hc
    isplitl [HR0 HS0]; · isplitl [HR0] <;> iassumption
    isplitl [H01]; · iexact H01
    isplitr; · rw [show (hand c j 0 (0 + 1) : sProp 𝕄) = iprop(emp) from rfl]; iempintro
    isplitl [HO] <;> iassumption
  iintro ⟨HL0, Hs, -, HO, Hout⟩
  iapply (wp_stepA m K c 1 0 1 j _ 0 1 (by omega) rfl rfl rfl (so12_eq c 0 j) _ (lft_eq c) rfl 4 (by decide)) $$ [HR1 HS1 H11 Hs HO Hout]
  · isplitr; · iexact Hc
    isplitl [HR1 HS1]; · isplitl [HR1] <;> iassumption
    isplitl [H11]; · iexact H11
    isplitl [Hs]; · iapply (show (slot c 0 0 j 1 : sProp 𝕄) ⊢ hand c j 1 (0 + 1) from .rfl); iexact Hs
    isplitl [HO] <;> iassumption
  iintro ⟨HL1, Hs, -, HO, Hout⟩
  iapply Hk
  isplitr [HO Hout]
  · isplitl [HL0 HL1]; · isplitl [HL0] <;> iassumption
    isplitl [H02]; · iexact H02
    isplitl [H12] <;> iassumption
  isplitl [HO] <;> iassumption

theorem wp_col2 (c : Dev nD) (j : Fin 4) (k : P F) (Q : PUnit → sProp 𝕄) :
    iprop(ctx m K ∗ Col2 c j ∗ (Ow c (16 + 2 * j.val) ∗ Out m c 6 0))
      ⊢ iprop((Col3 c j ∗ (Ow c (16 + 2 * (j.val + 1)) ∗ Out m c 6 0) -∗ WP c k Q)
        -∗ WP c (stepA 0 1 2 j (so11 c 1 j) (rgt c) <| stepA 1 1 2 j (so12 c 0 1 j) (lft c) k) Q) := by
  unfold Col2 Col3 Lanes
  iintro ⟨#Hc, ⟨⟨HL0, HL1⟩, H02, H12, Hs⟩, HO, Hout⟩ Hk
  iapply (wp_stepA m K c 0 1 2 j _ 1 2 (by omega) rfl rfl rfl (so11_eq c 1 j) _ (rgt_eq c) rfl 6 (by decide)) $$ [HL0 H02 Hs HO Hout]
  · isplitr; · iexact Hc
    isplitl [HL0]; · iexact HL0
    isplitl [H02]; · iexact H02
    isplitl [Hs]; · iapply (show (slot c 1 0 j 1 : sProp 𝕄) ⊢ hand c j 0 (1 + 1) from .rfl); iexact Hs
    isplitl [HO] <;> iassumption
  iintro ⟨HL0, Hs, -, HO, Hout⟩
  iapply (wp_stepA m K c 1 1 2 j _ 1 2 (by omega) rfl rfl rfl (so12_eq c 1 j) _ (lft_eq c) rfl 6 (by decide)) $$ [HL1 H12 Hs HO Hout]
  · isplitr; · iexact Hc
    isplitl [HL1]; · iexact HL1
    isplitl [H12]; · iexact H12
    isplitl [Hs]; · iapply (show (slot c 0 1 j 1 : sProp 𝕄) ⊢ hand c j 1 (1 + 1) from .rfl); iexact Hs
    isplitl [HO] <;> iassumption
  rw [src1]
  iintro ⟨HL1, Hs, Hh, HO, Hout⟩
  iapply Hk
  isplitr [HO Hout]
  · isplitl [HL0 HL1]; · isplitl [HL0] <;> iassumption
    isplitl [Hs]; · iexact Hs
    iapply (show hand (nbr 0 c) j 1 1 ⊢ (slot (nbr 0 c) 0 0 j 1 : sProp 𝕄) from .rfl); iexact Hh
  isplitl [HO] <;> iassumption

theorem wp_col3 (c : Dev nD) (j : Fin 4) (k : P F) (Q : PUnit → sProp 𝕄) :
    iprop(ctx m K ∗ Col3 c j ∗ (Ow c (24 + 2 * j.val) ∗ Out m c 8 (2 * j.val)))
      ⊢ iprop((Col4 c j ∗ (Ow c (24 + 2 * (j.val + 1)) ∗ Out m c 8 (2 * (j.val + 1))) -∗ WP c k Q)
        -∗ WP c (stepY (scl m c) 0 j (so11 c 2 j) (rgt c) fun y => stepY (scl m c) 1 j (so12 c 0 2 j) (lft c) fun y' =>
          putO (so11 c 2 j) y <| putO (so12 c 0 2 j) y' k) Q) := by
  unfold Col3 Col4 Lanes
  iintro ⟨#Hc, ⟨⟨HL0, HL1⟩, Hs, Hd⟩, HO, Hout⟩ Hk
  iapply (wp_stepY m K c 0 j _ (so11_eq c 2 j) _ (rgt_eq c) (2 * j.val) (by simp)) $$ [HL0 Hd Hs HO Hout]
  · isplitr; · iexact Hc
    isplitl [HL0]; · iexact HL0
    isplitl [Hd]; · iexact Hd
    isplitl [Hs]; · iapply (show (slot c 1 1 j 1 : sProp 𝕄) ⊢ hand c j 0 3 from .rfl); iexact Hs
    isplitl [HO] <;> iassumption
  rw [src0]
  iintro ⟨HL0, Hs, Hh, HO, Hout⟩
  iapply (wp_stepY m K c 1 j _ (so12_eq c 2 j) _ (lft_eq c) (2 * j.val) (by simp)) $$ [HL1 Hh Hs HO Hout]
  · isplitr; · iexact Hc
    isplitl [HL1]; · iexact HL1
    isplitl [Hh]; · iapply (show hand (nbr 1 c) j 0 2 ⊢ (slot (nbr 1 c) 1 0 j 1 : sProp 𝕄) from .rfl); iexact Hh
    isplitl [Hs]; · iapply (show (slot c 0 2 j 1 : sProp 𝕄) ⊢ hand c j 1 3 from .rfl); iexact Hs
    isplitl [HO] <;> iassumption
  rw [src1]
  iintro ⟨HL1, Hs, Hh, HO, Hout⟩
  iapply (wp_putO m c _ 0 3 j (so11_eq c 2 j) 8 (2 * j.val) (by simp) (Y m c 0 j) rfl) $$ Hout; iintro Hout
  iapply (wp_putO m c _ 1 3 j (so12_eq c 2 j) 8 (2 * j.val + 1) (by simp) (Y m c 1 j) rfl) $$ Hout; iintro Hout
  iapply Hk
  isplitr [HO Hout]
  · isplitl [HL0 HL1]; · isplitl [HL0] <;> iassumption
    isplitl [Hs]; · iexact Hs
    iapply (show hand (nbr 0 c) j 1 2 ⊢ (slot (nbr 0 c) 0 1 j 1 : sProp 𝕄) from .rfl); iexact Hh
  isplitl [HO] <;> iassumption

theorem wp_col4 (c : Dev nD) (j : Fin 4) (k : P F) (Q : PUnit → sProp 𝕄) :
    iprop(ctx m K ∗ Col4 c j ∗ (Ow c (32 + 2 * j.val) ∗ Out m c 8 (8 + 2 * j.val)))
      ⊢ iprop((Col5 c j ∗ (Ow c (32 + 2 * (j.val + 1)) ∗ Out m c 8 (8 + 2 * (j.val + 1))) -∗ WP c k Q)
        -∗ WP c (stepF (sV 0 j) (sWE 0 j) 0 0 1 j (rgt c) <| stepF (sV 1 j) (sWE 1 j) 1 0 1 j (lft c) <|
          outR 0 0 j (so13 c 0 j) <| outR 1 0 j (so12 c 1 0 j) k) Q) := by
  unfold Col4 Col5 Lanes
  iintro ⟨#Hc, ⟨⟨HL0, HL1⟩, Hs, Hd⟩, HO, Hout⟩ Hk
  iapply (wp_stepF m K c (sV 0 j) (sWE 0 j) (N_s 0 j) 0 0 1 j 3 (by omega) rfl rfl rfl _ (rgt_eq c) rfl rfl) $$ [HL0 Hd Hs HO]
  · isplitr; · iexact Hc
    isplitl [HL0]; · iexact HL0
    isplitl [Hd]; · iexact Hd
    isplitl [Hs]; · iapply (show (slot c 1 2 j 1 : sProp 𝕄) ⊢ hand c j 0 (3 + 1) from .rfl); iexact Hs
    iexact HO
  rw [src0]
  iintro ⟨HL0, Hr0, Hs0, Hh, HO⟩
  iapply (wp_stepF m K c (sV 1 j) (sWE 1 j) (N_s 1 j) 1 0 1 j 3 (by omega) rfl rfl rfl _ (lft_eq c) rfl rfl) $$ [HL1 Hh HO]
  · isplitr; · iexact Hc
    isplitl [HL1]; · iexact HL1
    isplitl [Hh]; · iapply (show hand (nbr 1 c) j 0 3 ⊢ (slot (nbr 1 c) 1 1 j 1 : sProp 𝕄) from .rfl); iexact Hh
    isplitr; · rw [show (hand c j 1 (3 + 1) : sProp 𝕄) = iprop(emp) from rfl]; iempintro
    iexact HO
  rw [src1]
  iintro ⟨HL1, Hr1, Hs1, Hh, HO⟩
  iapply (wp_outR m c 0 0 0 j _ (so13_eq c 0 j) _ _ (congrArg (fun y => widV (SV m 0 j 3 y)) (src0 c)).symm (8 + 2 * j.val) (by simp)) $$ [Hr0 Hout]
  · isplitl [Hr0] <;> iassumption
  iintro ⟨Hr0, Hout⟩
  iapply (wp_outR m c 1 0 0 j _ (so12_eq' c 0 j) _ _ (congrArg (fun y => widV (SV m 1 j 3 y)) (src1 c)).symm (8 + 2 * j.val + 1) (by simp)) $$ [Hr1 Hout]
  · isplitl [Hr1] <;> iassumption
  iintro ⟨Hr1, Hout⟩
  iapply Hk
  isplitr [HO Hout]
  · isplitl [HL0 HL1]; · isplitl [HL0] <;> iassumption
    isplitl [Hs0 Hs1]
    · isplitl [Hs0]
      · iapply (show sPay c 0 j 3 ⊢ (anyS c 0 j : sProp 𝕄) from .rfl); iexact Hs0
      iapply (show sPay c 1 j 3 ⊢ (anyS c 1 j : sProp 𝕄) from .rfl); iexact Hs1
    isplitl [Hh]; · iapply (show hand (nbr 0 c) j 1 3 ⊢ (slot (nbr 0 c) 0 2 j 1 : sProp 𝕄) from .rfl); iexact Hh
    isplitl [Hr0] <;> iassumption
  isplitl [HO] <;> iassumption

theorem wp_col5 (c : Dev nD) (j : Fin 4) (k : P F) (Q : PUnit → sProp 𝕄) :
    iprop(ctx m K ∗ Col5 c j ∗ (Ow c (40 + 2 * j.val) ∗ Out m c 8 (16 + 2 * j.val)))
      ⊢ iprop((Col6 c j ∗ (Ow c (40 + 2 * (j.val + 1)) ∗ Out m c 8 (16 + 2 * (j.val + 1))) -∗ WP c k Q)
        -∗ WP c (stepF (rV 0 0 j) (rWE 0 0 j) 0 1 2 j (rgt c) <| stepF (rV 1 0 j) (rWE 1 0 j) 1 1 2 j (lft c) <|
          outR 0 1 j (so13 c 1 j) <| outR 1 1 j (so12 c 1 1 j) k) Q) := by
  unfold Col5 Col6 Lanes
  iintro ⟨#Hc, ⟨⟨HL0, HL1⟩, HS, Hd, Hq0, Hq1⟩, HO, Hout⟩ Hk
  iapply (wp_stepF m K c (rV 0 0 j) (rWE 0 0 j) (N_r 0 0 j) 0 1 2 j 4 (by omega) rfl rfl rfl _ (rgt_eq c) rfl rfl) $$ [HL0 Hd HO]
  · isplitr; · iexact Hc
    isplitl [HL0]; · iexact HL0
    isplitl [Hd]; · iexact Hd
    isplitr; · rw [show (hand c j 0 (4 + 1) : sProp 𝕄) = iprop(emp) from rfl]; iempintro
    iexact HO
  rw [src0]
  iintro ⟨HL0, Hr0, Hs0, Hh, HO⟩
  iapply (wp_stepF m K c (rV 1 0 j) (rWE 1 0 j) (N_r 1 0 j) 1 1 2 j 4 (by omega) rfl rfl rfl _ (lft_eq c) rfl rfl) $$ [HL1 Hh HO]
  · isplitr; · iexact Hc
    isplitl [HL1]; · iexact HL1
    isplitl [Hh]; · iapply (show hand (nbr 1 c) j 0 4 ⊢ (slot (nbr 1 c) 1 2 j 1 : sProp 𝕄) from .rfl); iexact Hh
    isplitr; · rw [show (hand c j 1 (4 + 1) : sProp 𝕄) = iprop(emp) from rfl]; iempintro
    iexact HO
  rw [src1]
  iintro ⟨HL1, Hr1, Hs1, -, HO⟩
  iapply (wp_outR m c 0 1 1 j _ (so13_eq c 1 j) _ _ (congrArg (fun y => widV (SV m 0 j 4 y)) (src0 c)).symm (16 + 2 * j.val) (by simp)) $$ [Hr0 Hout]
  · isplitl [Hr0] <;> iassumption
  iintro ⟨Hr0, Hout⟩
  iapply (wp_outR m c 1 1 1 j _ (so12_eq' c 1 j) _ _ (congrArg (fun y => widV (SV m 1 j 4 y)) (src1 c)).symm (16 + 2 * j.val + 1) (by simp)) $$ [Hr1 Hout]
  · isplitl [Hr1] <;> iassumption
  iintro ⟨Hr1, Hout⟩
  iapply Hk
  isplitr [HO Hout]
  · isplitl [HL0 HL1]; · isplitl [HL0] <;> iassumption
    isplitl [HS]; · iexact HS
    isplitl [Hs0 Hs1 Hq0 Hq1]
    · isplitl [Hs0 Hq0]
      · iapply (anyR_join c 0 0 j); isplitl [Hs0]
        · iapply (show sPay c 0 j 4 ⊢ (anyR c 0 0 j fullShare.left : sProp 𝕄) from .rfl); iexact Hs0
        iexact Hq0
      iapply (anyR_join c 1 0 j); isplitl [Hs1]
      · iapply (show sPay c 1 j 4 ⊢ (anyR c 1 0 j fullShare.left : sProp 𝕄) from .rfl); iexact Hs1
      iexact Hq1
    isplitl [Hr0] <;> iassumption
  isplitl [HO] <;> iassumption

theorem wp_colZ (c : Dev nD) (j : Fin 4) (k : P F) (Q : PUnit → sProp 𝕄) :
    iprop(ctx m K ∗ Col6 c j ∗ (Ow c 48 ∗ Out m c 8 (24 + 2 * j.val)))
      ⊢ iprop((ColE c j ∗ (Ow c 48 ∗ Out m c 8 (24 + 2 * (j.val + 1))) -∗ WP c k Q)
        -∗ WP c (stepZ 0 j (so13 c 2 j) <| stepZ 1 j (so12 c 1 2 j) k) Q) := by
  unfold Col6 ColE Lanes
  iintro ⟨#Hc, ⟨⟨HL0, HL1⟩, HS, Hf, Hq0, Hq1⟩, HO, Hout⟩ Hk
  iapply (wp_stepZ m K c 0 j _ (so13_eq c 2 j) (24 + 2 * j.val) (by simp)) $$ [HL0 Hq0 HO Hout]
  · isplitr; · iexact Hc
    isplitl [HL0]; · iexact HL0
    isplitl [Hq0]; · iexact Hq0
    isplitl [HO] <;> iassumption
  iintro ⟨HL0, H10, H20, HO, Hout⟩
  iapply (wp_stepZ m K c 1 j _ (so12_eq' c 2 j) (24 + 2 * j.val + 1) (by simp)) $$ [HL1 Hq1 HO Hout]
  · isplitr; · iexact Hc
    isplitl [HL1]; · iexact HL1
    isplitl [Hq1]; · iexact Hq1
    isplitl [HO] <;> iassumption
  iintro ⟨HL1, H11, H21, HO, Hout⟩
  iapply Hk
  isplitr [HO Hout]
  · isplitl [HL0 HL1]; · isplitl [HL0] <;> iassumption
    isplitl [HS]; · iexact HS
    isplitl [Hf]; · iexact Hf
    isplitl [H10 H11]; · isplitl [H10] <;> iassumption
    isplitl [H20] <;> iassumption
  isplitl [HO] <;> iassumption

/-! ## Four columns in turn -/

def Four (A : Fin 4 → sProp 𝕄) : sProp 𝕄 := iprop(A 0 ∗ A 1 ∗ A 2 ∗ A 3)

theorem wp_four (c : Dev nD) (f : Fin 4 → P F → P F) (A B : Fin 4 → sProp 𝕄) (R : ℕ → sProp 𝕄) (Q : PUnit → sProp 𝕄)
    (h : ∀ (j : Fin 4) (k : P F), iprop(ctx m K ∗ A j ∗ R j.val) ⊢ iprop((B j ∗ R (j.val + 1) -∗ WP c k Q) -∗ WP c (f j k) Q)) (k : P F) :
    iprop(ctx m K ∗ Four A ∗ R 0) ⊢ iprop((Four B ∗ R 4 -∗ WP c k Q) -∗ WP c (four f k) Q) := by
  unfold Four four
  iintro ⟨#Hc, ⟨H0, H1, H2, H3⟩, HR⟩ Hk
  iapply (show ∀ kt, iprop(ctx m K ∗ A 0 ∗ R 0) ⊢ iprop((B 0 ∗ R 1 -∗ WP c kt Q) -∗ WP c (f 0 kt) Q) from fun kt => h 0 kt) $$ [H0 HR]
  · isplitr; · iexact Hc
    isplitl [H0] <;> iassumption
  iintro ⟨H0, HR⟩
  iapply (show ∀ kt, iprop(ctx m K ∗ A 1 ∗ R 1) ⊢ iprop((B 1 ∗ R 2 -∗ WP c kt Q) -∗ WP c (f 1 kt) Q) from fun kt => h 1 kt) $$ [H1 HR]
  · isplitr; · iexact Hc
    isplitl [H1] <;> iassumption
  iintro ⟨H1, HR⟩
  iapply (show ∀ kt, iprop(ctx m K ∗ A 2 ∗ R 2) ⊢ iprop((B 2 ∗ R 3 -∗ WP c kt Q) -∗ WP c (f 2 kt) Q) from fun kt => h 2 kt) $$ [H2 HR]
  · isplitr; · iexact Hc
    isplitl [H2] <;> iassumption
  iintro ⟨H2, HR⟩
  iapply (show ∀ kt, iprop(ctx m K ∗ A 3 ∗ R 3) ⊢ iprop((B 3 ∗ R 4 -∗ WP c kt Q) -∗ WP c (f 3 kt) Q) from fun kt => h 3 kt) $$ [H3 HR]
  · isplitr; · iexact Hc
    isplitl [H3] <;> iassumption
  iintro ⟨H3, HR⟩
  iapply Hk
  isplitr [HR]
  · isplitl [H0]; · iexact H0
    isplitl [H1]; · iexact H1
    isplitl [H2] <;> iassumption
  iexact HR

/-! ## The staged blocks and the products -/

theorem wp_startX (c : Dev nD) (b : Fin 2) (r : ℕ) (hr : r < 3) (k : Fin 4) (htp : tPay m c b r = tPayX m c b k) (p : RowOff) (hp : p = rowOff k)
    (kt : P F) (Q : PUnit → sProp 𝕄) :
    iprop(ctx m K ∗ StA c b r ∗ xPts m c k) ⊢ iprop((StB c b r -∗ WP c kt Q) -∗ WP c (startT (xV p) (xWE p) b kt) Q) := by
  subst hp
  exact wp_startT m K c (xV (rowOff k)) (xWE (rowOff k)) b r hr _ (by rw [htp]; exact .rfl) kt Q

theorem wp_endX (c : Dev nD) (b : Fin 2) (r : ℕ) (hr : r < 3) (k : Fin 4) (htp : tPay m c b r = tPayX m c b k) (p p' : RowOff)
    (hp' : p' = rowOff k) (hpk : p'.rect.PackedRows (EltTy.packing .fp8e4m3)) (S : Finset (Fin 4)) (t : ℕ) (kt : P F) (Q : PUnit → sProp 𝕄) :
    iprop(ctx m K ∗ StB c b r ∗ XQ m c S ∗ Ow c t)
      ⊢ iprop((StA c b (r + 1) ∗ xPts m c k ∗ XQ m c (insert k S) ∗ Ow c t -∗ WP c kt Q)
        -∗ WP c (waitT (xV p) (xWE p) b <| castX b p' hpk kt) Q) := by
  iintro ⟨#Hc, HB, HX, HO⟩ Hk
  iapply (wp_waitT m K c (xV p) (xWE p) b r t hr) $$ [HB HO]
  · isplitr; · iexact Hc
    isplitl [HB] <;> iassumption
  rw [htp]
  unfold tPayX
  iintro ⟨HC, HO, Hown, Hx⟩
  iapply (wp_castX m c b p' k hp' hpk S) $$ [Hown HX]
  · isplitl [Hown] <;> iassumption
  iintro ⟨Hown, HX⟩
  iapply Hk
  isplitl [HC Hown]
  · iapply (StC_any c b (r + 1) _); isplitl [Hown] <;> iassumption
  isplitl [Hx]; · iexact Hx
  isplitl [HX] <;> iassumption

theorem wp_chunkX (c : Dev nD) (b : Fin 2) (r : ℕ) (hr : r < 3) (k : Fin 4) (htp : tPay m c b r = tPayX m c b k) (p p' : RowOff) (hp : p = rowOff k)
    (hp' : p' = rowOff k) (hpk : p'.rect.PackedRows (EltTy.packing .fp8e4m3)) (S : Finset (Fin 4)) (t : ℕ) (kt : P F) (Q : PUnit → sProp 𝕄) :
    iprop(ctx m K ∗ StA c b r ∗ xPts m c k ∗ XQ m c S ∗ Ow c t)
      ⊢ iprop((StA c b (r + 1) ∗ xPts m c k ∗ XQ m c (insert k S) ∗ Ow c t -∗ WP c kt Q) -∗ WP c (chunkX b p p' hpk kt) Q) := by
  unfold chunkX
  iintro ⟨#Hc, HA, Hx, HX, HO⟩ Hk
  iapply (wp_startX m K c b r hr k htp p hp) $$ [HA Hx]
  · isplitr; · iexact Hc
    isplitl [HA] <;> iassumption
  iintro HB
  iapply (wp_endX m K c b r hr k htp p p' hp' hpk S t kt Q) $$ [HB HX HO]
  · isplitr; · iexact Hc
    isplitl [HB]; · iexact HB
    isplitl [HX] <;> iassumption
  iexact Hk

theorem wp_startW (c : Dev nD) (b d : Fin 2) (r : ℕ) (hr : r < 3) (htp : tPay m c b r = tPayW m c b d) (kt : P F) (Q : PUnit → sProp 𝕄) :
    iprop(ctx m K ∗ StA c b r ∗ wPts m c d) ⊢ iprop((StB c b r -∗ WP c kt Q) -∗ WP c (startT (wV d) (wWE d) b kt) Q) :=
  wp_startT m K c (wV d) (wWE d) b r hr _ (by rw [htp]; exact .rfl) kt Q

theorem wp_endW (c : Dev nD) (b d : Fin 2) (r : ℕ) (hr : r < 3) (htp : tPay m c b r = tPayW m c b d) (S : Finset (Fin 2)) (t : ℕ) (kt : P F) (Q : PUnit → sProp 𝕄) :
    iprop(ctx m K ∗ StB c b r ∗ WQ m c S ∗ Ow c t)
      ⊢ iprop((StA c b (r + 1) ∗ wPts m c d ∗ WQ m c (insert d S) ∗ Ow c t -∗ WP c kt Q)
        -∗ WP c (waitT (wV d) (wWE d) b <| castW b d kt) Q) := by
  iintro ⟨#Hc, HB, HX, HO⟩ Hk
  iapply (wp_waitT m K c (wV d) (wWE d) b r t hr) $$ [HB HO]
  · isplitr; · iexact Hc
    isplitl [HB] <;> iassumption
  rw [htp]
  unfold tPayW
  iintro ⟨HC, HO, Hown, Hx⟩
  iapply (wp_castW m c b d S) $$ [Hown HX]
  · isplitl [Hown] <;> iassumption
  iintro ⟨Hown, HX⟩
  iapply Hk
  isplitl [HC Hown]
  · iapply (StC_any c b (r + 1) _); isplitl [Hown] <;> iassumption
  isplitl [Hx]; · iexact Hx
  isplitl [HX] <;> iassumption

theorem chunk_at (c : Dev nD) : chunk c 1 0 = chunk c 0 0 ∧ chunk c 1 3 = chunk c 0 1 ∧ chunk c 1 2 = chunk c 0 2 ∧ chunk c 1 1 = chunk c 0 3 := by
  revert c; decide

/-- The blocks of `x` cached after each of the loads. -/
def X1 (c : Dev nD) : Finset (Fin 4) := insert (chunk c 1 0) ∅
def X2 (c : Dev nD) : Finset (Fin 4) := insert (chunk c 1 3) (X1 c)
def X3 (c : Dev nD) : Finset (Fin 4) := insert (chunk c 1 1) (X2 c)
def X4 (c : Dev nD) : Finset (Fin 4) := insert (chunk c 1 2) (X3 c)
def W1 : Finset (Fin 2) := insert 0 ∅
def W2 : Finset (Fin 2) := insert 1 W1

theorem mem_X (c : Dev nD) : chunk c 1 0 ∈ X1 c ∧ chunk c 1 3 ∈ X2 c ∧ chunk c 1 1 ∈ X3 c ∧ chunk c 1 2 ∈ X4 c ∧ chunk c 1 1 ∈ X4 c ∧ chunk c 1 3 ∈ X4 c := by
  revert c; decide

/-- A product, its block at the place the first direction or the second names. -/
theorem wp_dot0 (c : Dev nD) (p : RowOff) (b : BlkOff) (k : Fin 4) (e : Fin 4) (hk : k = chunk c 0 e) (hp : p = rowOff k) (hb : b = blkOff k 0)
    (q : ℕ) (hq : q = 2 * e.val) (S : Finset (Fin 4)) (hS : k ∈ S) (S' : Finset (Fin 2)) (hS' : 0 ∈ S') (kt : P F) (Q : PUnit → sProp 𝕄) :
    iprop(XQ m c S ∗ WQ m c S' ∗ Out m c q 0)
      ⊢ iprop((XQ m c S ∗ WQ m c S' ∗ Out m c (q + 1) 0 -∗ WP c kt Q) -∗ WP c (dotS p 0 b kt) Q) := by
  subst hk
  exact wp_dotS m c p b 0 e hp hb q hq S hS S' hS' kt Q

theorem wp_open0 (c : Dev nD) (k : P F) (Q : PUnit → sProp 𝕄) :
    iprop(ctx m K ∗ (StA c 0 0 ∗ StA c 1 0) ∗ (wPts m c 0 ∗ xPts m c (chunk c 1 0)) ∗ (XQ m c ∅ ∗ WQ m c ∅ ∗ Out m c 0 0) ∗ Ow c 0)
      ⊢ iprop(((StA c 0 1 ∗ StA c 1 1) ∗ (wPts m c 0 ∗ xPts m c (chunk c 1 0)) ∗ (XQ m c (X1 c) ∗ WQ m c W1 ∗ Out m c 1 0) ∗ Ow c 0 -∗ WP c k Q)
        -∗ WP c (open0 c k) Q) := by
  unfold open0
  iintro ⟨#Hc, ⟨HA0, HA1⟩, ⟨Hw, Hx⟩, ⟨HX, HW, Hout⟩, HO⟩ Hk
  iapply (wp_startW m K c 0 0 0 (by decide) rfl) $$ [HA0 Hw]
  · isplitr; · iexact Hc
    isplitl [HA0] <;> iassumption
  iintro HB0
  iapply (wp_startX m K c 1 0 (by decide) (chunk c 1 0) rfl (xo1 c) (xo1_eq c)) $$ [HA1 Hx]
  · isplitr; · iexact Hc
    isplitl [HA1] <;> iassumption
  iintro HB1
  iapply (wp_endW m K c 0 0 0 (by decide) rfl ∅ 0) $$ [HB0 HW HO]
  · isplitr; · iexact Hc
    isplitl [HB0]; · iexact HB0
    isplitl [HW] <;> iassumption
  iintro ⟨HA0, Hw, HW, HO⟩
  iapply (wp_endX m K c 1 0 (by decide) (chunk c 1 0) rfl (xo1 c) (xo2 c) (xo2_eq c) _ ∅ 0) $$ [HB1 HX HO]
  · isplitr; · iexact Hc
    isplitl [HB1]; · iexact HB1
    isplitl [HX] <;> iassumption
  iintro ⟨HA1, Hx, HX, HO⟩
  iapply (wp_dot0 m c (xo2 c) (bo3 c) (chunk c 1 0) 0 (chunk_at c).1 (xo2_eq c) ((bo3_eq c).trans (by rw [(chunk_at c).1])) 0 rfl (X1 c) (mem_X c).1 W1 (by decide)) $$ [HX HW Hout]
  · isplitl [HX]; · iexact HX
    isplitl [HW]; · iexact HW
    iexact Hout
  iintro Hq
  iapply Hk
  isplitl [HA0 HA1]; · isplitl [HA0] <;> iassumption
  isplitl [Hw Hx]; · isplitl [Hw] <;> iassumption
  isplitl [Hq] <;> iassumption

theorem wp_open1 (c : Dev nD) (t : ℕ) (k : P F) (Q : PUnit → sProp 𝕄) :
    iprop(ctx m K ∗ StA c 1 1 ∗ wPts m c 1 ∗ (XQ m c (X1 c) ∗ WQ m c W1 ∗ Out m c 1 0) ∗ Ow c t)
      ⊢ iprop((StA c 1 2 ∗ wPts m c 1 ∗ (XQ m c (X1 c) ∗ WQ m c W2 ∗ Out m c 2 0) ∗ Ow c t -∗ WP c k Q)
        -∗ WP c (open1 c k) Q) := by
  unfold open1
  iintro ⟨#Hc, HA1, Hw, ⟨HX, HW, Hout⟩, HO⟩ Hk
  iapply (wp_startW m K c 1 1 1 (by decide) rfl) $$ [HA1 Hw]
  · isplitr; · iexact Hc
    isplitl [HA1] <;> iassumption
  iintro HB1
  iapply (wp_endW m K c 1 1 1 (by decide) rfl W1 t) $$ [HB1 HW HO]
  · isplitr; · iexact Hc
    isplitl [HB1]; · iexact HB1
    isplitl [HW] <;> iassumption
  iintro ⟨HA1, Hw, HW, HO⟩
  iapply (wp_dotS m c (xo2 c) (bo5 c) 1 0 (xo2_eq c) (bo5_eq c) 1 rfl (X1 c) (mem_X c).1 W2 (by decide)) $$ [HX HW Hout]
  · isplitl [HX]; · iexact HX
    isplitl [HW]; · iexact HW
    iexact Hout
  iintro Hq
  iapply Hk
  isplitl [HA1]; · iexact HA1
  isplitl [Hw]; · iexact Hw
  isplitl [Hq] <;> iassumption

theorem wp_dots0 (c : Dev nD) (t : ℕ) (k : P F) (Q : PUnit → sProp 𝕄) :
    iprop(ctx m K ∗ (StA c 0 1 ∗ StA c 1 2) ∗ (xPts m c (chunk c 1 3) ∗ xPts m c (chunk c 1 1)) ∗ (XQ m c (X1 c) ∗ WQ m c W2 ∗ Out m c 2 0) ∗ Ow c t)
      ⊢ iprop(((StA c 0 2 ∗ StA c 1 3) ∗ (xPts m c (chunk c 1 3) ∗ xPts m c (chunk c 1 1)) ∗ (XQ m c (X3 c) ∗ WQ m c W2 ∗ Out m c 4 0) ∗ Ow c t -∗ WP c k Q)
        -∗ WP c (dots0 c k) Q) := by
  unfold dots0
  iintro ⟨#Hc, ⟨HA0, HA1⟩, ⟨Hx3, Hx1⟩, ⟨HX, HW, Hout⟩, HO⟩ Hk
  iapply (wp_chunkX m K c 0 1 (by decide) (chunk c 1 3) rfl (xo7 c 2) (xo8 c 2) (xo7_eq c 2) (xo8_eq c 2) _ (X1 c) t) $$ [HA0 Hx3 HX HO]
  · isplitr; · iexact Hc
    isplitl [HA0]; · iexact HA0
    isplitl [Hx3]; · iexact Hx3
    isplitl [HX] <;> iassumption
  iintro ⟨HA0, Hx3, HX, HO⟩
  iapply (wp_dot0 m c (xo8 c 2) (bo9 c 2) (chunk c 1 3) 1 (chunk_at c).2.1 (xo8_eq c 2) (bo9_eq c 2) 2 rfl (X2 c) (mem_X c).2.1 W2 (by decide)) $$ [HX HW Hout]
  · isplitl [HX]; · iexact HX
    isplitl [HW] <;> iassumption
  iintro ⟨HX, HW, Hout⟩
  iapply (wp_chunkX m K c 1 2 (by decide) (chunk c 1 1) rfl (xo7 c 0) (xo8 c 0) (xo7_eq c 0) (xo8_eq c 0) _ (X2 c) t) $$ [HA1 Hx1 HX HO]
  · isplitr; · iexact Hc
    isplitl [HA1]; · iexact HA1
    isplitl [Hx1]; · iexact Hx1
    isplitl [HX] <;> iassumption
  iintro ⟨HA1, Hx1, HX, HO⟩
  iapply (wp_dotS m c (xo8 c 0) (bo10 c 0) 1 1 (xo8_eq c 0) (bo10_eq c 0) 3 rfl (X3 c) (mem_X c).2.2.1 W2 (by decide)) $$ [HX HW Hout]
  · isplitl [HX]; · iexact HX
    isplitl [HW] <;> iassumption
  iintro Hq
  iapply Hk
  isplitl [HA0 HA1]; · isplitl [HA0] <;> iassumption
  isplitl [Hx3 Hx1]; · isplitl [Hx3] <;> iassumption
  isplitl [Hq] <;> iassumption

theorem wp_dots1 (c : Dev nD) (t : ℕ) (k : P F) (Q : PUnit → sProp 𝕄) :
    iprop(ctx m K ∗ StA c 0 2 ∗ xPts m c (chunk c 1 2) ∗ (XQ m c (X3 c) ∗ WQ m c W2 ∗ Out m c 4 0) ∗ Ow c t)
      ⊢ iprop((StA c 0 3 ∗ xPts m c (chunk c 1 2) ∗ (XQ m c (X4 c) ∗ WQ m c W2 ∗ Out m c 6 0) ∗ Ow c t -∗ WP c k Q)
        -∗ WP c (dots1 c k) Q) := by
  unfold dots1
  iintro ⟨#Hc, HA0, Hx, ⟨HX, HW, Hout⟩, HO⟩ Hk
  iapply (wp_chunkX m K c 0 2 (by decide) (chunk c 1 2) rfl (xo7 c 1) (xo8 c 1) (xo7_eq c 1) (xo8_eq c 1) _ (X3 c) t) $$ [HA0 Hx HX HO]
  · isplitr; · iexact Hc
    isplitl [HA0]; · iexact HA0
    isplitl [Hx]; · iexact Hx
    isplitl [HX] <;> iassumption
  iintro ⟨HA0, Hx, HX, HO⟩
  iapply (wp_dot0 m c (xo8 c 1) (bo9 c 1) (chunk c 1 2) 2 (chunk_at c).2.2.1 (xo8_eq c 1) (bo9_eq c 1) 4 rfl (X4 c) (mem_X c).2.2.2.1 W2 (by decide)) $$ [HX HW Hout]
  · isplitl [HX]; · iexact HX
    isplitl [HW] <;> iassumption
  iintro ⟨HX, HW, Hout⟩
  iapply (wp_dotS m c (xo8 c 1) (bo10 c 1) 1 2 (xo8_eq c 1) (bo10_eq c 1) 5 rfl (X4 c) (mem_X c).2.2.2.1 W2 (by decide)) $$ [HX HW Hout]
  · isplitl [HX]; · iexact HX
    isplitl [HW] <;> iassumption
  iintro Hq
  iapply Hk
  isplitl [HA0]; · iexact HA0
  isplitl [Hx]; · iexact Hx
  isplitl [Hq] <;> iassumption

theorem wp_dots2 (c : Dev nD) (k : P F) (Q : PUnit → sProp 𝕄) :
    iprop(XQ m c (X4 c) ∗ WQ m c W2 ∗ Out m c 6 0)
      ⊢ iprop((XQ m c (X4 c) ∗ WQ m c W2 ∗ Out m c 8 0 -∗ WP c k Q) -∗ WP c (dots2 c k) Q) := by
  unfold dots2
  iintro Hq Hk
  iapply (wp_dot0 m c (xo8 c 0) (bo9 c 0) (chunk c 1 1) 3 (chunk_at c).2.2.2 (xo8_eq c 0) (bo9_eq c 0) 6 rfl (X4 c) (mem_X c).2.2.2.2.1 W2 (by decide)) $$ Hq
  iintro Hq
  iapply (wp_dotS m c (xo8 c 2) (bo10 c 2) 1 3 (xo8_eq c 2) (bo10_eq c 2) 7 rfl (X4 c) (mem_X c).2.2.2.2.2 W2 (by decide)) $$ Hq
  iexact Hk

theorem wp_hop0 (c : Dev nD) (k : P F) (Q : PUnit → sProp 𝕄) :
    iprop(ctx m K ∗ Four (Col0 c) ∗ StA c 1 1 ∗ wPts m c 1 ∗ (XQ m c (X1 c) ∗ WQ m c W1 ∗ Out m c 1 0) ∗ Ow c 0)
      ⊢ iprop((Four (Col1 c) ∗ StA c 1 2 ∗ wPts m c 1 ∗ (XQ m c (X1 c) ∗ WQ m c W2 ∗ Out m c 2 0) ∗ Ow c 8 -∗ WP c k Q)
        -∗ WP c (hop0 c k) Q) := by
  unfold hop0 Four Col0 Col1
  iintro ⟨#Hc, ⟨⟨H00, H10⟩, ⟨H01, H11⟩, ⟨H02, H12⟩, H03, H13⟩, HA, Hw, ⟨HX, HW, Hout⟩, HO⟩ Hk
  iapply (wp_step0 m K c 0 0 _ (so4_eq c 0) _ (rgt_eq c) 1 (by decide)) $$ [H00 HO Hout]
  · isplitr; · iexact Hc
    isplitl [H00]; · iexact H00
    isplitl [HO] <;> iassumption
  iintro ⟨H00, HO, Hout⟩
  iapply (wp_open1 m K c 1) $$ [HA Hw HX HW Hout HO]
  · isplitr; · iexact Hc
    isplitl [HA]; · iexact HA
    isplitl [Hw]; · iexact Hw
    isplitr [HO]
    · isplitl [HX]; · iexact HX
      isplitl [HW] <;> iassumption
    iexact HO
  iintro ⟨HA, Hw, ⟨HX, HW, Hout⟩, HO⟩
  iapply (wp_step0 m K c 1 0 _ (so6_eq c 0) _ (lft_eq c) 2 (by decide)) $$ [H10 HO Hout]
  · isplitr; · iexact Hc
    isplitl [H10]; · iexact H10
    isplitl [HO] <;> iassumption
  iintro ⟨H10, HO, Hout⟩
  iapply (wp_step0 m K c 0 1 _ (so4_eq c 1) _ (rgt_eq c) 2 (by decide)) $$ [H01 HO Hout]
  · isplitr; · iexact Hc
    isplitl [H01]; · iexact H01
    isplitl [HO] <;> iassumption
  iintro ⟨H01, HO, Hout⟩
  iapply (wp_step0 m K c 1 1 _ (so6_eq c 1) _ (lft_eq c) 2 (by decide)) $$ [H11 HO Hout]
  · isplitr; · iexact Hc
    isplitl [H11]; · iexact H11
    isplitl [HO] <;> iassumption
  iintro ⟨H11, HO, Hout⟩
  iapply (wp_step0 m K c 0 2 _ (so4_eq c 2) _ (rgt_eq c) 2 (by decide)) $$ [H02 HO Hout]
  · isplitr; · iexact Hc
    isplitl [H02]; · iexact H02
    isplitl [HO] <;> iassumption
  iintro ⟨H02, HO, Hout⟩
  iapply (wp_step0 m K c 1 2 _ (so6_eq c 2) _ (lft_eq c) 2 (by decide)) $$ [H12 HO Hout]
  · isplitr; · iexact Hc
    isplitl [H12]; · iexact H12
    isplitl [HO] <;> iassumption
  iintro ⟨H12, HO, Hout⟩
  iapply (wp_step0 m K c 0 3 _ (so4_eq c 3) _ (rgt_eq c) 2 (by decide)) $$ [H03 HO Hout]
  · isplitr; · iexact Hc
    isplitl [H03]; · iexact H03
    isplitl [HO] <;> iassumption
  iintro ⟨H03, HO, Hout⟩
  iapply (wp_step0 m K c 1 3 _ (so6_eq c 3) _ (lft_eq c) 2 (by decide)) $$ [H13 HO Hout]
  · isplitr; · iexact Hc
    isplitl [H13]; · iexact H13
    isplitl [HO] <;> iassumption
  iintro ⟨H13, HO, Hout⟩
  iapply Hk
  isplitl [H00 H01 H02 H03 H10 H11 H12 H13]
  · isplitl [H00 H10]; · isplitl [H00] <;> iassumption
    isplitl [H01 H11]; · isplitl [H01] <;> iassumption
    isplitl [H02 H12]; · isplitl [H02] <;> iassumption
    isplitl [H03] <;> iassumption
  isplitl [HA]; · iexact HA
  isplitl [Hw]; · iexact Hw
  isplitr [HO]
  · isplitl [HX]; · iexact HX
    isplitl [HW] <;> iassumption
  iexact HO

/-! ## The body after the barrier -/

def Xs (c : Dev nD) : sProp 𝕄 :=
  iprop((wPts m c 0 ∗ wPts m c 1) ∗ xPts m c (chunk c 1 0) ∗ xPts m c (chunk c 1 1) ∗ xPts m c (chunk c 1 2) ∗ xPts m c (chunk c 1 3))

theorem wp_rest (c : Dev nD) (Q : PUnit → sProp 𝕄) :
    iprop(ctx m K ∗ Four (Col0 c) ∗ (StA c 0 0 ∗ StA c 1 0) ∗ Xs m c ∗ (XQ m c ∅ ∗ WQ m c ∅ ∗ Out m c 0 0) ∗ Ow c 0)
      ⊢ iprop((Four (ColE c) ∗ (StA c 0 3 ∗ StA c 1 3) ∗ Xs m c ∗ (XQ m c (X4 c) ∗ WQ m c W2 ∗ Out m c 8 32) ∗ Ow c 48 -∗ Q ⟨⟩)
        -∗ WP c (rest c (scl m c)) Q) := by
  unfold rest hopA hop3 hop4 hop5 hopZ Xs
  iintro ⟨#Hc, HF, HA, ⟨⟨Hw0, Hw1⟩, Hx0, Hx1, Hx2, Hx3⟩, Hq, HO⟩ Hk
  iapply (wp_open0 m K c) $$ [HA Hw0 Hx0 Hq HO]
  · isplitr; · iexact Hc
    isplitl [HA]; · iexact HA
    isplitl [Hw0 Hx0]; · isplitl [Hw0] <;> iassumption
    isplitl [Hq] <;> iassumption
  iintro ⟨⟨HA0, HA1⟩, ⟨Hw0, Hx0⟩, Hq, HO⟩
  iapply (wp_hop0 m K c) $$ [HF HA1 Hw1 Hq HO]
  · isplitr; · iexact Hc
    isplitl [HF]; · iexact HF
    isplitl [HA1]; · iexact HA1
    isplitl [Hw1]; · iexact Hw1
    isplitl [Hq] <;> iassumption
  iintro ⟨HF, HA1, Hw1, Hq, HO⟩
  iapply (wp_dots0 m K c 8) $$ [HA0 HA1 Hx3 Hx1 Hq HO]
  · isplitr; · iexact Hc
    isplitl [HA0 HA1]; · isplitl [HA0] <;> iassumption
    isplitl [Hx3 Hx1]; · isplitl [Hx3] <;> iassumption
    isplitl [Hq] <;> iassumption
  iintro ⟨⟨HA0, HA1⟩, ⟨Hx3, Hx1⟩, ⟨HX, HW, Hout⟩, HO⟩
  iapply (wp_four m K c _ (Col1 c) (Col2 c) (fun i => iprop(Ow c (8 + 2 * i) ∗ Out m c 4 0)) Q (fun j k => wp_col1 m K c j k Q)) $$ [HF HO Hout]
  · isplitr; · iexact Hc
    isplitl [HF]; · iexact HF
    isplitl [HO] <;> iassumption
  iintro ⟨HF, HO, Hout⟩
  iapply (wp_dots1 m K c 16) $$ [HA0 Hx2 HX HW Hout HO]
  · isplitr; · iexact Hc
    isplitl [HA0]; · iexact HA0
    isplitl [Hx2]; · iexact Hx2
    isplitr [HO]
    · isplitl [HX]; · iexact HX
      isplitl [HW] <;> iassumption
    iexact HO
  iintro ⟨HA0, Hx2, ⟨HX, HW, Hout⟩, HO⟩
  iapply (wp_four m K c _ (Col2 c) (Col3 c) (fun i => iprop(Ow c (16 + 2 * i) ∗ Out m c 6 0)) Q (fun j k => wp_col2 m K c j k Q)) $$ [HF HO Hout]
  · isplitr; · iexact Hc
    isplitl [HF]; · iexact HF
    isplitl [HO] <;> iassumption
  iintro ⟨HF, HO, Hout⟩
  iapply (wp_dots2 m c) $$ [HX HW Hout]
  · isplitl [HX]; · iexact HX
    isplitl [HW] <;> iassumption
  iintro ⟨HX, HW, Hout⟩
  iapply (wp_four m K c _ (Col3 c) (Col4 c) (fun i => iprop(Ow c (24 + 2 * i) ∗ Out m c 8 (2 * i))) Q (fun j k => wp_col3 m K c j k Q)) $$ [HF HO Hout]
  · isplitr; · iexact Hc
    isplitl [HF]; · iexact HF
    isplitl [HO] <;> iassumption
  iintro ⟨HF, HO, Hout⟩
  iapply (wp_four m K c _ (Col4 c) (Col5 c) (fun i => iprop(Ow c (32 + 2 * i) ∗ Out m c 8 (8 + 2 * i))) Q (fun j k => wp_col4 m K c j k Q)) $$ [HF HO Hout]
  · isplitr; · iexact Hc
    isplitl [HF]; · iexact HF
    isplitl [HO] <;> iassumption
  iintro ⟨HF, HO, Hout⟩
  iapply (wp_four m K c _ (Col5 c) (Col6 c) (fun i => iprop(Ow c (40 + 2 * i) ∗ Out m c 8 (16 + 2 * i))) Q (fun j k => wp_col5 m K c j k Q)) $$ [HF HO Hout]
  · isplitr; · iexact Hc
    isplitl [HF]; · iexact HF
    isplitl [HO] <;> iassumption
  iintro ⟨HF, HO, Hout⟩
  iapply (wp_four m K c _ (Col6 c) (ColE c) (fun i => iprop(Ow c 48 ∗ Out m c 8 (24 + 2 * i))) Q (fun j k => wp_colZ m K c j k Q)) $$ [HF HO Hout]
  · isplitr; · iexact Hc
    isplitl [HF]; · iexact HF
    isplitl [HO] <;> iassumption
  iintro ⟨HF, HO, Hout⟩
  unfold WP
  rw [wp_ret]; imodintro
  iapply Hk
  isplitl [HF]; · iexact HF
  isplitl [HA0 HA1]; · isplitl [HA0] <;> iassumption
  isplitl [Hw0 Hw1 Hx0 Hx1 Hx2 Hx3]
  · isplitl [Hw0 Hw1]; · isplitl [Hw0] <;> iassumption
    isplitl [Hx0]; · iexact Hx0
    isplitl [Hx1]; · iexact Hx1
    isplitl [Hx2] <;> iassumption
  isplitr [HO]
  · isplitl [HX]; · iexact HX
    isplitl [HW] <;> iassumption
  iexact HO

end Cert.KernelIdeal.Roll

end
-- ==== Proof.Cells.lean ====
/- The protocol's cells and duty tokens as the launch mints them, who pays which duty, and the credit each device
   starts with. -/
module

public import proofs.«01_k».proof.Proof.Hops

@[expose] public section

noncomputable section

namespace Cert.KernelIdeal.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Bool (Elt F) ℕ UU ℕ

variable (m : (ℓ : Loc nD τ sig) → Buf (Elt F) ℓ) (K : Dev nD × Fin 35 → ℕ)

/-! ## Separating conjunctions over ranges -/

theorem sep_fin (n : ℕ) (Φ : ℕ → sProp 𝕄) : (bigSep Finset.univ fun i : Fin n => Φ i.val) = bigSep (Finset.Ico 0 n) Φ := by
  rw [show Finset.Ico 0 n = (Finset.univ : Finset (Fin n)).map Fin.valEmbedding by ext x; simp [Finset.mem_map, Fin.exists_iff], bigSep_map]
  rfl
theorem sep_ico3 (a : ℕ) (Φ : ℕ → sProp 𝕄) : bigSep (Finset.Ico a (a + 3)) Φ = iprop(Φ a ∗ Φ (a + 1) ∗ Φ (a + 2)) := by
  rw [bigSep_Ico_succ_bot (by omega), bigSep_Ico_succ_bot (by omega), bigSep_Ico_succ_bot (by omega), Finset.Ico_self, bigSep_empty]
  exact congrArg (fun X => iprop(Φ a ∗ Φ (a + 1) ∗ X)) (equiv_iff.mp sep_emp)
theorem sep_prod {A : Type} [Fintype A] [DecidableEq A] (n : ℕ) (Φ : A → ℕ → sProp 𝕄) :
    (bigSep Finset.univ fun x : A × Fin n => Φ x.1 x.2.val) = bigSep Finset.univ fun a => bigSep (Finset.Ico 0 n) (Φ a) := by
  rw [bigSep_univ_prod]; exact bigSep_congr fun a _ => sep_fin n (Φ a)
theorem sep_ico6 (Φ : ℕ → sProp 𝕄) : bigSep (Finset.Ico 0 6) Φ = iprop(Φ 0 ∗ Φ 1 ∗ Φ 2 ∗ Φ 3 ∗ Φ 4 ∗ Φ 5) := by
  rw [bigSep_Ico_succ_bot (by omega), bigSep_Ico_succ_bot (by omega), bigSep_Ico_succ_bot (by omega), sep_ico3 3]
theorem sep_three (Φ : Fin 3 → sProp 𝕄) : bigSep Finset.univ Φ = iprop(Φ 0 ∗ Φ 1 ∗ Φ 2) := bigSep_univ_eq_bigSepL [0, 1, 2] (by decide) (by decide) Φ
theorem sep_two (Φ : Fin 2 → sProp 𝕄) : bigSep Finset.univ Φ = iprop(Φ 0 ∗ Φ 1) := bigSep_univ_eq_bigSepL [0, 1] (by decide) (by decide) Φ
theorem sep_four (Φ : Fin 4 → sProp 𝕄) : bigSep Finset.univ Φ = Four Φ := bigSep_univ_eq_bigSepL [0, 1, 2, 3] (by decide) (by decide) Φ

/-! ## The cells -/

abbrev DJ := Fin 2 × Fin 4

theorem csem_inj : Function.Injective csem := by decide +kernel
theorem kcell_inj : Function.Injective (kcell : Dev nD × Fin 35 → GSem nD τ sig) := by
  rintro ⟨c, k⟩ ⟨c', k'⟩ h
  have h1 : c = c' := congrArg (fun g : GSem nD τ sig => g.1.1) h
  subst h1
  have h2 : k = k' := csem_inj (congrArg Prod.snd h : csem k = csem k')
  rw [h2]

def cellIx : Unit ⊕ DJ ⊕ (DJ × Fin 3) ⊕ Fin 2 → Fin 35
  | .inl _ => 0
  | .inr (.inl x) => sIx x.1 x.2
  | .inr (.inr (.inl x)) => rIx x.1.1 x.2 x.1.2
  | .inr (.inr (.inr b)) => tIx b
theorem cellIx_bij : Function.Bijective cellIx :=
  (Fintype.bijective_iff_injective_and_card cellIx).2 ⟨by decide +kernel, by decide⟩

/-- One thing per cell, by kind of cell. -/
theorem sep_cells (Ψ : SemLoc sig → sProp 𝕄) :
    (bigSep Finset.univ fun k : Fin 35 => Ψ (csem k))
      = iprop(Ψ (.reg bSem) ∗ (bigSep Finset.univ fun x : DJ => Ψ (.dma (sSem x.1 x.2)))
        ∗ (bigSep Finset.univ fun x : DJ => bigSep Finset.univ fun s : Fin 3 => Ψ (.dma (rSem x.1 s x.2)))
        ∗ bigSep Finset.univ fun b : Fin 2 => Ψ (.dma (tSem b))) := by
  rw [bigSep_univ_equiv (Equiv.ofBijective cellIx cellIx_bij), bigSep_univ_sum, bigSep_univ_sum, bigSep_univ_sum,
    bigSep_univ_prod (fun x : DJ × Fin 3 => _)]
  simp only [Equiv.ofBijective_apply, cellIx, csem_b, csem_s, csem_r, csem_t]
  rw [Finset.univ_unique, bigSep_singleton]
  rfl

/-! ## The duty tokens -/

abbrev TI := Fin 2 ⊕ (DJ × Fin 6) ⊕ (DJ × Fin 6) ⊕ (Fin 2 × Fin 3)

/-- A device's own cells' duties. -/
def tokOf (x : Dev nD × TI) : GSem nD τ sig × ℕ × Fin 2 :=
  match x.2 with
  | .inl d => (bCell x.1, 0, d)
  | .inr (.inl y) => (sCell x.1 y.1.1 y.1.2, y.2.val, 0)
  | .inr (.inr (.inl y)) => (rCell x.1 y.1.1 (sl y.2.val) y.1.2, y.2.val / 3, 0)
  | .inr (.inr (.inr y)) => (tCell x.1 y.1, y.2.val, 0)

theorem tokOf_inj : Function.Injective tokOf := by
  rintro ⟨c, t⟩ ⟨c', t'⟩ h
  have hc : c = c' := by
    have h1 := congrArg (fun x : GSem nD τ sig × ℕ × Fin 2 => x.1.1.1) h
    rcases t with t | t | t | t <;> rcases t' with t' | t' | t' | t' <;> exact h1
  subst hc
  have hk := congrArg (fun x : GSem nD τ sig × ℕ × Fin 2 => (kd x.1.2, x.2)) h
  have : t = t' := by
    rcases t with t | ⟨⟨d, j⟩, i⟩ | ⟨⟨d, j⟩, i⟩ | ⟨b, i⟩ <;> rcases t' with t' | ⟨⟨d', j'⟩, i'⟩ | ⟨⟨d', j'⟩, i'⟩ | ⟨b', i'⟩ <;>
      simp only [tokOf, kd_b, kd_s, kd_r, kd_t, Prod.mk.injEq, Kd.snd.injEq, Kd.rcv.injEq, Kd.stg.injEq, reduceCtorEq, false_and, and_false, true_and] at hk
    · rw [hk]
    · obtain ⟨⟨rfl, rfl⟩, h2, -⟩ := hk; rw [Fin.ext h2]
    · obtain ⟨⟨rfl, h1, rfl⟩, h2, -⟩ := hk
      have h3 : i.val % 3 = i'.val % 3 := congrArg Fin.val h1
      rw [show i = i' from Fin.ext (by omega)]
    · obtain ⟨rfl, h2, -⟩ := hk; rw [Fin.ext h2]
  rw [this]

def ringCells : Finset (GSem nD τ sig) := Finset.univ.map ⟨kcell, kcell_inj⟩
def ringToks : Finset (GSem nD τ sig × ℕ × Fin 2) := Finset.univ.map ⟨tokOf, tokOf_inj⟩

def u₀ : UU :=
  (initOf (Pipeline.cells cfgs cellOf_inj) (Pipeline.launchToks cfgs cellOf_inj), initOf ringCells ringToks)

def tokT (c : Dev nD) (b : Fin 2) (i : ℕ) : sProp 𝕄 := dutyTok ER (tCell c b) i 0

/-- The tokens of device `c`'s own cells, -/
def toks (c : Dev nD) : sProp 𝕄 :=
  iprop((dutyTok ER (bCell c) 0 0 ∗ dutyTok ER (bCell c) 0 1)
    ∗ (bigSep Finset.univ fun x : DJ => bigSep (Finset.Ico 0 6) (tokS c x.1 x.2))
    ∗ (bigSep Finset.univ fun x : DJ => bigSep (Finset.Ico 0 6) fun i => dutyTok ER (rCell c x.1 (sl i) x.2) (i / 3) 0)
    ∗ bigSep Finset.univ fun b : Fin 2 => bigSep (Finset.Ico 0 3) (tokT c b))
/-- and of the duties it pays. -/
def payToks (c : Dev nD) : sProp 𝕄 :=
  iprop((dutyTok ER (bCell (nbr 1 c)) 0 0 ∗ dutyTok ER (bCell (nbr 0 c)) 0 1)
    ∗ (bigSep Finset.univ fun x : DJ => bigSep (Finset.Ico 0 6) (tokS c x.1 x.2))
    ∗ (bigSep Finset.univ fun x : DJ => bigSep (Finset.Ico 0 6) (tokR c x.1 x.2))
    ∗ bigSep Finset.univ fun b : Fin 2 => bigSep (Finset.Ico 0 3) (tokT c b))

theorem toks_eq (c : Dev nD) : (bigSep Finset.univ fun t : TI => (dutyTok ER (tokOf (c, t)).1 (tokOf (c, t)).2.1 (tokOf (c, t)).2.2 : sProp 𝕄)) = toks c := by
  unfold toks
  rw [bigSep_univ_sum, bigSep_univ_sum, bigSep_univ_sum, sep_two,
    ← sep_prod 6 fun x : DJ => tokS c x.1 x.2, ← sep_prod 3 (tokT c),
    ← sep_prod 6 fun (x : DJ) i => dutyTok ER (rCell c x.1 (sl i) x.2) (i / 3) 0]
  rfl

def nbrE (d : Fin 2) : Dev nD ≃ Dev nD := ⟨nbr d, src d, src_nbr d, nbr_src d⟩

theorem toks_around : (bigSep Finset.univ fun c : Dev nD => (toks c : sProp 𝕄)) ⊢ bigSep Finset.univ fun c : Dev nD => payToks c := by
  have hR : (bigSep Finset.univ fun c : Dev nD => bigSep Finset.univ fun x : DJ => bigSep (Finset.Ico 0 6) fun i => (dutyTok ER (rCell c x.1 (sl i) x.2) (i / 3) 0 : sProp 𝕄))
      = bigSep Finset.univ fun c : Dev nD => bigSep Finset.univ fun x : DJ => bigSep (Finset.Ico 0 6) (tokR c x.1 x.2) := by
    rw [bigSep_univ_comm, bigSep_univ_comm fun (c : Dev nD) (x : DJ) => bigSep (Finset.Ico 0 6) (tokR c x.1 x.2)]
    exact bigSep_congr fun x _ => by rw [bigSep_univ_equiv (nbrE x.1)]; rfl
  unfold toks payToks
  simp only [bigSep_sep']
  rw [hR, bigSep_univ_equiv (nbrE 1) (fun c : Dev nD => (dutyTok ER (bCell c) 0 0 : sProp 𝕄)),
    bigSep_univ_equiv (nbrE 0) (fun c : Dev nD => (dutyTok ER (bCell c) 0 1 : sProp 𝕄))]
  exact .rfl

/-! ## Funding and allocating the cells -/

/-- What the launch deals device `c`. -/
def G (c : Dev nD) : sProp 𝕄 :=
  iprop((bigSep Finset.univ fun k : Fin 35 => roundState ER (Rd m) (kcell (c, k)) 0)
    ∗ (bigSep Finset.univ fun k : Fin 35 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 35 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores. -/
abbrev osem (k : Fin 34) : SemLoc sig := csem k.succ
theorem ownSemFacts : Pipeline.OwnSemFacts cfg0.spec osem := by decide +kernel

theorem unscopedSems0_eq (c : Dev nD) : (unscopedSems0 c : sProp 𝕄) = semVal (bCell c) 0 := by
  unfold unscopedSems0; rw [bigSep_eq_bigSepL_of_eq [SemLoc.reg bSem] (by decide) (by decide)]; rfl

theorem sep_succ (Φ : Fin 35 → sProp 𝕄) : bigSep Finset.univ Φ = iprop(Φ 0 ∗ bigSep Finset.univ fun k : Fin 34 => Φ k.succ) := by
  rw [Fin.univ_succ, Finset.cons_eq_insert, bigSep_insert (by simp), bigSep_map]; rfl

theorem sems0_eq (c : Dev nD) :
    iprop(unscopedSems0 c ∗ Pipeline.ownSems0 (Ix := Bool) (Name := ℕ) (U := UU) (Lvl := ℕ) (Val := Elt F) (τ := τ) osem c)
      = (bigSep Finset.univ fun k : Fin 35 => semVal (kcell (c, k)) 0 : sProp 𝕄) := by
  rw [unscopedSems0_eq, sep_succ]; rfl

theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 35 => semVal (kcell (c, k)) 0) ∗ bigSep Finset.univ fun k : Fin 35 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may read of every cell. -/
def records : sProp 𝕄 :=
  iprop((bigSep Finset.univ fun ck : Dev nD × Fin 35 => cellInv ER (Rd m) (K ck) (kcell ck))
    ∗ bigSep Finset.univ fun ck : Dev nD × Fin 35 => reached ER (kcell ck) 0)

instance records_persistent : BI.Persistent (records m K) := by unfold records; infer_instance

theorem records_ctx : iprop(records m K ∗ levAts L lv) ⊢ ctx m K := by
  unfold records ctx; iintro ⟨⟨H, -⟩, Hl⟩; isplitl [H] <;> iassumption
theorem records_cell (c : Dev nD) (k : Fin 35) : records m K ⊢ reached ER ((c : Thread nD τ), csem k) 0 := by
  unfold records; exact sep_elim_right.trans (bigSep_elim (i := (c, k)) (Finset.mem_univ _))
theorem records_b (c : Dev nD) : records m K ⊢ reached ER (bCell c) 0 := records_cell m K c 0
theorem records_s (c : Dev nD) (d : Fin 2) (j : Fin 4) : records m K ⊢ reached ER (sCell c d j) 0 := by
  have h := records_cell m K c (sIx d j); rwa [csem_s] at h
theorem records_r (c : Dev nD) (d : Fin 2) (s : Fin 3) (j : Fin 4) : records m K ⊢ reached ER (rCell c d s j) 0 := by
  have h := records_cell m K c (rIx d s j); rwa [csem_r] at h
theorem records_t (c : Dev nD) (b : Fin 2) : records m K ⊢ reached ER (tCell c b) 0 := by
  have h := records_cell m K c (tIx b); rwa [csem_t] at h

/-- What stays with device `c`: its positions and the tokens of the duties it pays. -/
def linear (c : Dev nD) : sProp 𝕄 :=
  iprop((bigSep Finset.univ fun k : Fin 35 => atPos ER (kcell (c, k)) 0 ∅ 0) ∗ payToks c)
def G' (c : Dev nD) : sProp 𝕄 := iprop(∃ K, records m K ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 35 => iprop(∃ κ : ℕ, cellInv ER (Rd m) κ (kcell ck))),
    bigSep_congr (s := Finset.univ) (fun (c : Dev nD) _ => bigSep_sep' Finset.univ (fun k : Fin 35 => (atPos ER (kcell (c, k)) 0 ∅ 0 : sProp 𝕄)) (fun k => reached ER (kcell (c, k)) 0)),
    bigSep_sep', ← bigSep_univ_prod (fun ck : Dev nD × Fin 35 => (reached ER (kcell ck) 0 : sProp 𝕄))]
  iintro ⟨HI, ⟨Hat, #HR⟩, Htok⟩
  ihave HK := (BI.bigSep_exists_pi Finset.univ (fun (ck : Dev nD × Fin 35) (κ : ℕ) => (cellInv ER (Rd m) κ (kcell ck) : sProp 𝕄))) $$ HI
  icases HK with ⟨%K, #HI⟩
  ihave Htk := (toks_around (F := F)) $$ Htok
  iapply (bigSep_with_persistent (R := records m K) (Φ := linear) fun c _ => by unfold G'; iintro H; iexists K; iexact H)
  isplitr
  · unfold records; isplitl; · iexact HI
    iexact HR
  unfold linear; rw [bigSep_sep']
  isplitl [Hat]; · iexact Hat
  iexact Htk

theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem rCell_inj {c c' : Dev nD} {d d' : Fin 2} {s s' : Fin 3} {j j' : Fin 4} (h : rCell c d s j = rCell c' d' s' j') :
    c = c' ∧ d = d' ∧ s = s' ∧ j = j' := by
  have h1 : c = c' := congrArg (fun g : GSem nD τ sig => g.1.1) h
  have h2 := congrArg (fun g : GSem nD τ sig => kd g.2) h
  simp only [kd_r, Kd.rcv.injEq] at h2
  exact ⟨h1, h2.1, h2.2.1, h2.2.2⟩
theorem rCell_ne_b (c c' : Dev nD) (d : Fin 2) (s : Fin 3) (j : Fin 4) : rCell c d s j ≠ bCell c' := fun h => by
  have h2 := congrArg (fun g : GSem nD τ sig => kd g.2) h
  simp only [kd_r, kd_b, reduceCtorEq] at h2
theorem bCell_inj {c c' : Dev nD} (h : bCell c = bCell c') : c = c' := congrArg (fun g : GSem nD τ sig => g.1.1) h

theorem owedF_apply (x : Dev nD) (g : GSem nD τ sig) (ι : Bool) : owedF x 0 g ι = ∑ i ∈ Finset.Ico 0 48, owedT x i g ι := by
  unfold owedF; rw [Finset.sum_apply, Finsupp.finset_sum_apply]
theorem owedF_b (x c : Dev nD) (ι : Bool) : owedF x 0 (bCell c) ι = 0 := by
  rw [owedF_apply]
  exact Finset.sum_eq_zero fun i _ => by unfold owedT; rw [tallyAt_ne_cell (rCell_ne_b _ _ _ _ _).symm]; rfl

theorem owed_b (x c : Dev nD) (ι : Bool) : O₀ x (bCell c) ι = (if x = src 0 c then if ι = false then 1 else 0 else 0) + (if x = src 1 c then if ι = false then 1 else 0 else 0) := by
  have hd (d : Fin 2) : (tallyAt (bCell (nbr d x)) false 1 : CellTallies nD τ sig Bool) (bCell c) ι = if x = src d c then if ι = false then 1 else 0 else 0 := by
    rw [tallyAt_apply]
    by_cases h : x = src d c
    · subst h; rw [nbr_src, if_pos rfl]
      by_cases h2 : ι = false
      · rw [if_pos h2, if_pos ⟨rfl, h2⟩]
      · rw [if_neg h2, if_neg fun h' => h2 h'.2]
    · rw [if_neg h, if_neg fun h' => h (by rw [bCell_inj h'.1, src_nbr])]
  unfold O₀ O₁
  rw [Pi.add_apply, Finsupp.add_apply, Pi.add_apply, Finsupp.add_apply, owedF_b, hd, hd, Nat.zero_add]

theorem owed_r (x c : Dev nD) (d : Fin 2) (s : Fin 3) (j : Fin 4) (ι : Bool) : O₀ x (rCell c d s j) ι = if x = src d c then N else 0 := by
  unfold O₀ O₁
  rw [Pi.add_apply, Finsupp.add_apply, Pi.add_apply, Finsupp.add_apply, tallyAt_ne_cell (rCell_ne_b _ _ _ _ _),
    tallyAt_ne_cell (rCell_ne_b _ _ _ _ _), Finsupp.zero_apply, Nat.add_zero, Nat.add_zero, owedF_apply]
  have key (i : ℕ) (hi : i < 48) : owedT x i (rCell c d s j) ι = if x = src d c ∧ i = 8 * (s.val + if ι then 3 else 0) + 2 * j.val + d.val then N else 0 := by
    unfold owedT; rw [tallyAt_apply]
    refine if_congr ⟨fun h => ?_, fun h => ?_⟩ rfl rfl
    · obtain ⟨h1, h2⟩ := h
      obtain ⟨h3, h4, h5, h6⟩ := rCell_inj h1
      subst h3
      rw [← h4, src_nbr]
      have e4 : d.val = i % 2 := congrArg Fin.val h4
      have e5 : s.val = i / 8 % 3 := congrArg Fin.val h5
      have e6 : j.val = i / 2 % 4 := congrArg Fin.val h6
      refine ⟨rfl, ?_⟩
      by_cases h7 : 3 ≤ i / 8
      · rw [decide_eq_true h7] at h2; subst h2; simp only [if_true]; omega
      · rw [decide_eq_false h7] at h2; subst h2; simp only [Bool.false_eq_true, if_false]; omega
    · obtain ⟨h1, h2⟩ := h
      have e4 : d = ⟨i % 2, Nat.mod_lt _ (by decide)⟩ := Fin.ext (by show d.val = i % 2; omega)
      have e6 : j = ⟨i / 2 % 4, Nat.mod_lt _ (by decide)⟩ := Fin.ext (by show j.val = i / 2 % 4; omega)
      have e5 : s = sl (i / 8) := Fin.ext (by show s.val = i / 8 % 3; cases ι <;> simp at h2 <;> omega)
      rw [← e4, ← e5, ← e6, h1, nbr_src]
      refine ⟨rfl, ?_⟩
      cases ι
      · symm; apply decide_eq_false; simp at h2; omega
      · symm; apply decide_eq_true; simp at h2; omega
  rw [Finset.sum_congr rfl fun i hi => key i (Finset.mem_Ico.mp hi).2]
  by_cases hx : x = src d c
  · rw [if_pos hx, Finset.sum_eq_single (8 * (s.val + if ι then 3 else 0) + 2 * j.val + d.val)]
    · rw [if_pos ⟨hx, rfl⟩]
    · exact fun i _ hne => if_neg fun h => hne h.2
    · intro h; exact absurd (Finset.mem_Ico.mpr ⟨Nat.zero_le _, by cases ι <;> simp <;> omega⟩) h
  · rw [if_neg hx]; exact Finset.sum_eq_zero fun i _ => if_neg fun h => hx h.1

theorem launch_b (c : Dev nD) :
    tallyOn (bCell c) (launchCredit (Pipeline.owing O₀) 0 (bCell c)) = (tallyAt (bCell c) false 2 : CellTallies nD τ sig Bool) := by
  unfold tallyAt; refine congrArg _ (Finsupp.ext fun ι => ?_)
  rw [Pipeline.launchCredit_owing, Finset.sum_congr rfl fun x _ => owed_b x c ι, Finset.sum_add_distrib,
    Finset.sum_ite_eq' Finset.univ (src 0 c), Finset.sum_ite_eq' Finset.univ (src 1 c), if_pos (Finset.mem_univ _), if_pos (Finset.mem_univ _)]
  cases ι <;> simp

theorem launch_r (c : Dev nD) (d : Fin 2) (s : Fin 3) (j : Fin 4) :
    tallyOn (rCell c d s j) (launchCredit (Pipeline.owing O₀) 0 (rCell c d s j))
      = (tallyAt (rCell c d s j) false N + tallyAt (rCell c d s j) true N : CellTallies nD τ sig Bool) := by
  unfold tallyAt; rw [← tallyOn_add]; refine congrArg _ (Finsupp.ext fun ι => ?_)
  rw [Pipeline.launchCredit_owing, Finset.sum_congr rfl fun x _ => owed_r x c d s j ι, Finset.sum_ite_eq' Finset.univ (src d c), if_pos (Finset.mem_univ _),
    Finsupp.add_apply]
  cases ι <;> simp

theorem creds6 (c : Dev nD) (d : Fin 2) (j : Fin 4) :
    (iprop(cred (tallyAt (rCell c d 0 j) false N + tallyAt (rCell c d 0 j) true N) ∗ cred (tallyAt (rCell c d 1 j) false N + tallyAt (rCell c d 1 j) true N)
        ∗ cred (tallyAt (rCell c d 2 j) false N + tallyAt (rCell c d 2 j) true N)) : sProp 𝕄)
      ⊢ iprop(credR c d j 0 ∗ credR c d j 1 ∗ credR c d j 2 ∗ credR c d j 3 ∗ credR c d j 4 ∗ credR c d j 5) := by
  rw [show credR c d j 0 = (cred (tallyAt (rCell c d 0 j) false N) : sProp 𝕄) from rfl,
    show credR c d j 1 = (cred (tallyAt (rCell c d 1 j) false N) : sProp 𝕄) from rfl,
    show credR c d j 2 = (cred (tallyAt (rCell c d 2 j) false N) : sProp 𝕄) from rfl,
    show credR c d j 3 = (cred (tallyAt (rCell c d 0 j) true N) : sProp 𝕄) from rfl,
    show credR c d j 4 = (cred (tallyAt (rCell c d 1 j) true N) : sProp 𝕄) from rfl,
    show credR c d j 5 = (cred (tallyAt (rCell c d 2 j) true N) : sProp 𝕄) from rfl]
  iintro ⟨H0, H1, H2⟩
  ihave H0' := (cred_add _ _).1 $$ H0
  ihave H1' := (cred_add _ _).1 $$ H1
  ihave H2' := (cred_add _ _).1 $$ H2
  icases H0' with ⟨A0, B0⟩
  icases H1' with ⟨A1, B1⟩
  icases H2' with ⟨A2, B2⟩
  isplitl [A0]; · iexact A0
  isplitl [A1]; · iexact A1
  isplitl [A2]; · iexact A2
  isplitl [B0]; · iexact B0
  isplitl [B1]; · iexact B1
  iexact B2

theorem creds (c : Dev nD) :
    (Pipeline.launchCred O₀ c : sProp 𝕄)
      ⊢ iprop(cred (tallyAt (bCell c) false 2) ∗ bigSep Finset.univ fun x : DJ => bigSep (Finset.Ico 0 6) (credR c x.1 x.2)) := by
  unfold Pipeline.launchCred
  refine (bigSep_subset (Finset.subset_univ (Finset.univ.map ⟨csem, csem_inj⟩))).trans ?_
  rw [bigSep_map]
  refine (Entails.of_eq (sep_cells fun sm => cred (tallyOn ((c : Thread nD τ), sm) (launchCredit (Pipeline.owing O₀) 0 ((c : Thread nD τ), sm))))).trans ?_
  rw [launch_b]
  refine sep_mono_right ?_
  refine sep_elim_right.trans (sep_elim_left.trans (bigSep_mono fun x _ => ?_))
  rw [sep_three, launch_r, launch_r, launch_r, sep_ico6]
  exact creds6 c x.1 x.2

end Cert.KernelIdeal.Roll

end
-- ==== Proof.Bufs.lean ====
/- Cutting the buffers into the pieces the ring's lanes work on and putting them together again; what the lanes start
   from and what they leave. -/
module

public import proofs.«01_k».proof.Proof.Cells

@[expose] public section

noncomputable section

namespace Cert.KernelIdeal.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Bool (Elt F) ℕ UU ℕ

variable (m : (ℓ : Loc nD τ sig) → Buf (Elt F) ℓ) (K : Dev nD × Fin 35 → ℕ)

/-! ## Pieces of a buffer -/

section Pieces
variable {T : Type} [Fintype T] [DecidableEq T] {ℓ : Loc nD τ sig} {q : PosShare TreeShare} (P : T → Finset (Idx ℓ))
  (hc : ∀ i, ∃ t, i ∈ P t) (hd : ∀ t t', t ≠ t' → Disjoint (P t) (P t'))
include hc hd

theorem pieces (f : Buf (Elt F) ℓ) : (ℓ ↦{q} f : sProp 𝕄) = bigSep Finset.univ fun t => ℓ ↦[P t]{q} f := by
  rw [← pointsTo_biUnion Finset.univ P fun t _ t' _ => hd t t']
  congr 1
  exact (Finset.eq_univ_iff_forall.mpr fun i => Finset.mem_biUnion.mpr ((hc i).imp fun t h => ⟨Finset.mem_univ t, h⟩)).symm

theorem pieces_split : (iprop(∃ f : Buf (Elt F) ℓ, ℓ ↦{q} f) : sProp 𝕄) ⊢ bigSep Finset.univ fun t => iprop(∃ f : Buf (Elt F) ℓ, ℓ ↦[P t]{q} f) := by
  have h (f : Buf (Elt F) ℓ) : (ℓ ↦{q} f : sProp 𝕄) ⊢ bigSep Finset.univ fun t => iprop(∃ f : Buf (Elt F) ℓ, ℓ ↦[P t]{q} f) := by
    rw [pieces P hc hd f]
    have e (t : T) : (ℓ ↦[P t]{q} f : sProp 𝕄) ⊢ iprop(∃ f : Buf (Elt F) ℓ, ℓ ↦[P t]{q} f) := by iintro H; iexists f; iexact H
    exact bigSep_mono fun t _ => e t
  iintro ⟨%f, H⟩
  iapply (h f)
  iexact H

theorem pieces_join : (bigSep Finset.univ fun t => (iprop(∃ f : Buf (Elt F) ℓ, ℓ ↦[P t]{q} f) : sProp 𝕄)) ⊢ iprop(∃ f : Buf (Elt F) ℓ, ℓ ↦{q} f) := by
  haveI : Nonempty (Buf (Elt F) ℓ) := ⟨fun _ => default⟩
  iintro H
  ihave H := (BI.bigSep_exists_pi Finset.univ (fun t (f : Buf (Elt F) ℓ) => (ℓ ↦[P t]{q} f : sProp 𝕄))) $$ H
  icases H with ⟨%fs, H⟩
  ihave H := (pointsTo_biUnion_join Finset.univ P fs (Classical.arbitrary _) fun t _ t' _ => hd t t') $$ H
  icases H with ⟨%g, -, H⟩
  rw [(Finset.eq_univ_iff_forall.mpr fun i => Finset.mem_biUnion.mpr ((hc i).imp fun t h => ⟨Finset.mem_univ t, h⟩) : Finset.univ.biUnion P = Finset.univ)]
  iexists g; iexact H

end Pieces

theorem s_set (d : Fin 2) (j : Fin 4) : (sV d j).view.set = (sRect d j).set := (sV_set d j).trans (View.set_slice_whole _ _)
theorem r_set (d : Fin 2) (s : Fin 3) (j : Fin 4) : (rV d s j).view.set = (rRect d s j).set := (rV_set d s j).trans (View.set_slice_whole _ _)
theorem t_set (b : Fin 2) : (tV b).view.set = (tRect b).set := (tV_set b).trans (View.set_slice_whole _ _)
theorem x_set (k : Fin 4) : (xV (rowOff k)).view.set = (rowOff k).rect.set := View.set_slice_whole _ _
theorem w_set (d : Fin 2) : (wV d).view.set = (wRect d).set := View.set_slice_whole _ _

theorem s_cover (i : S2x4x256x1024.Idx) : ∃ x : DJ, i ∈ (sV x.1 x.2).view.set := by
  refine ⟨(i 0, i 1), ?_⟩
  rw [s_set]
  refine Rect.mem_set_unit.mpr fun a => ?_
  have h2 : (i 2).val < 256 := (i 2).isLt
  have h3 : (i 3).val < 1024 := (i 3).isLt
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 256; omega
  · show 0 ≤ (i 3).val ∧ (i 3).val < 0 + 1024; omega
theorem r_cover (i : S2x3x4x256x1024.Idx) : ∃ x : DJ × Fin 3, i ∈ (rV x.1.1 x.2 x.1.2).view.set := by
  refine ⟨((i 0, i 2), i 1), ?_⟩
  rw [r_set]
  refine Rect.mem_set_unit.mpr fun a => ?_
  have h3 : (i 3).val < 256 := (i 3).isLt
  have h4 : (i 4).val < 1024 := (i 4).isLt
  fin_cases a
  · show (i 0).val ≤ (i 0).val ∧ (i 0).val < (i 0).val + 1; omega
  · show (i 1).val ≤ (i 1).val ∧ (i 1).val < (i 1).val + 1; omega
  · show (i 2).val ≤ (i 2).val ∧ (i 2).val < (i 2).val + 1; omega
  · show 0 ≤ (i 3).val ∧ (i 3).val < 0 + 256; omega
  · show 0 ≤ (i 4).val ∧ (i 4).val < 0 + 1024; omega
theorem t_cover (i : S2x1024x1024.Idx) : ∃ b : Fin 2, i ∈ (tV b).view.set := by
  have h0 : (i 0).val < 2 := (i 0).isLt
  refine ⟨⟨(i 0).val, h0⟩, ?_⟩
  rw [t_set]
  refine Rect.mem_set_unit.mpr fun a => ?_
  have h1 : (i 1).val < 1024 := (i 1).isLt
  have h2 : (i 2).val < 1024 := (i 2).isLt
  fin_cases a
  · show (i 0).val ≤ (i 0).val ∧ (i 0).val < (i 0).val + 1; omega
  · show 0 ≤ (i 1).val ∧ (i 1).val < 0 + 1024; omega
  · show 0 ≤ (i 2).val ∧ (i 2).val < 0 + 1024; omega
theorem x_cover (i : S4096x1024.Idx) : ∃ k : Fin 4, i ∈ (xV (rowOff k)).view.set := by
  have h0 : (i 0).val < 4096 := (i 0).isLt
  have h1 : (i 1).val < 1024 := (i 1).isLt
  refine ⟨⟨(i 0).val / 1024, by omega⟩, ?_⟩
  rw [x_set]
  refine Rect.mem_set_unit.mpr fun a => ?_
  fin_cases a
  · show 1024 * ((i 0).val / 1024) ≤ (i 0).val ∧ (i 0).val < 1024 * ((i 0).val / 1024) + 1024; omega
  · show 0 ≤ (i 1).val ∧ (i 1).val < 0 + 1024; omega
theorem w_cover (i : S1024x2048.Idx) : ∃ d : Fin 2, i ∈ (wV d).view.set := by
  have h0 : (i 0).val < 1024 := (i 0).isLt
  have h1 : (i 1).val < 2048 := (i 1).isLt
  refine ⟨⟨(i 1).val / 1024, by omega⟩, ?_⟩
  rw [w_set]
  refine Rect.mem_set_unit.mpr fun a => ?_
  fin_cases a
  · show 0 ≤ (i 0).val ∧ (i 0).val < 0 + 1024; omega
  · show 1024 * ((i 1).val / 1024) ≤ (i 1).val ∧ (i 1).val < 1024 * ((i 1).val / 1024) + 1024; omega

theorem fin_apart {n : ℕ} {a b : Fin n} (h : a ≠ b) : a.val + 1 ≤ b.val ∨ b.val + 1 ≤ a.val := by
  have : a.val ≠ b.val := fun h' => h (Fin.ext h')
  omega

theorem s_apart (x y : DJ) (h : x ≠ y) : Disjoint (sV x.1 x.2).view.set (sV y.1 y.2).view.set := by
  rw [s_set, s_set]
  by_cases h0 : x.1 = y.1
  · exact Rect.unit_disjoint 1 (fin_apart fun h1 => h (Prod.ext h0 h1))
  · exact Rect.unit_disjoint 0 (fin_apart h0)
theorem r_apart (x y : DJ × Fin 3) (h : x ≠ y) : Disjoint (rV x.1.1 x.2 x.1.2).view.set (rV y.1.1 y.2 y.1.2).view.set := by
  rw [r_set, r_set]
  by_cases h0 : x.1.1 = y.1.1
  · by_cases h1 : x.2 = y.2
    · exact Rect.unit_disjoint 2 (fin_apart fun h2 => h (Prod.ext (Prod.ext h0 h2) h1))
    · exact Rect.unit_disjoint 1 (fin_apart h1)
  · exact Rect.unit_disjoint 0 (fin_apart h0)
theorem t_apart (x y : Fin 2) (h : x ≠ y) : Disjoint (tV x).view.set (tV y).view.set := by
  rw [t_set, t_set]; exact Rect.unit_disjoint 0 (fin_apart h)
theorem x_apart (x y : Fin 4) (h : x ≠ y) : Disjoint (xV (rowOff x)).view.set (xV (rowOff y)).view.set := by
  rw [x_set, x_set]
  refine Rect.unit_disjoint 0 ?_
  have := fin_apart h
  show 1024 * x.val + 1024 ≤ 1024 * y.val ∨ 1024 * y.val + 1024 ≤ 1024 * x.val
  omega
theorem w_apart (x y : Fin 2) (h : x ≠ y) : Disjoint (wV x).view.set (wV y).view.set := by
  rw [w_set, w_set]
  refine Rect.unit_disjoint 1 ?_
  have := fin_apart h
  show 1024 * x.val + 1024 ≤ 1024 * y.val ∨ 1024 * y.val + 1024 ≤ 1024 * x.val
  omega

/-- A whole buffer at any contents. -/
abbrev anyB (c : Dev nD) (b : Ref sig .tc) : sProp 𝕄 := iprop(∃ f : Buf (Elt F) ((c : Thread nD τ).loc b), ((c : Thread nD τ).loc b) ↦{fullShare} f)

abbrev pS (c : Dev nD) (x : DJ) : Finset (Idx ((c : Thread nD τ).loc cc0_scratch0)) := (sV x.1 x.2).view.set
abbrev pR (c : Dev nD) (x : DJ × Fin 3) : Finset (Idx ((c : Thread nD τ).loc cc0_scratch1)) := (rV x.1.1 x.2 x.1.2).view.set
abbrev pT (c : Dev nD) (b : Fin 2) : Finset (Idx ((c : Thread nD τ).loc cc0_scratch6)) := (tV b).view.set
abbrev pX (c : Dev nD) (k : Fin 4) : Finset (Idx ((c : Thread nD τ).loc main_arg0)) := (xV (rowOff k)).view.set
abbrev pW (c : Dev nD) (d : Fin 2) : Finset (Idx ((c : Thread nD τ).loc main_arg1)) := (wV d).view.set

theorem split_s (c : Dev nD) : (anyB c cc0_scratch0 : sProp 𝕄) ⊢ bigSep Finset.univ fun x : DJ => anyS c x.1 x.2 :=
  pieces_split (pS c) s_cover s_apart
theorem join_s (c : Dev nD) : (bigSep Finset.univ fun x : DJ => (anyS c x.1 x.2 : sProp 𝕄)) ⊢ anyB c cc0_scratch0 :=
  pieces_join (pS c) s_cover s_apart
theorem split_r (c : Dev nD) : (anyB c cc0_scratch1 : sProp 𝕄) ⊢ bigSep Finset.univ fun x : DJ => bigSep Finset.univ fun s : Fin 3 => anyR c x.1 s x.2 fullShare :=
  (pieces_split (pR c) r_cover r_apart).trans (Entails.of_eq (bigSep_univ_prod _))
theorem join_r (c : Dev nD) : (bigSep Finset.univ fun x : DJ => bigSep Finset.univ fun s : Fin 3 => (anyR c x.1 s x.2 fullShare : sProp 𝕄)) ⊢ anyB c cc0_scratch1 :=
  (Entails.of_eq (bigSep_univ_prod fun x : DJ × Fin 3 => (anyR c x.1.1 x.2 x.1.2 fullShare : sProp 𝕄)).symm).trans
    (pieces_join (pR c) r_cover r_apart)
theorem split_t (c : Dev nD) : (anyB c cc0_scratch6 : sProp 𝕄) ⊢ iprop(anyT c 0 ∗ anyT c 1) :=
  (pieces_split (pT c) t_cover t_apart).trans (Entails.of_eq (sep_two _))
theorem join_t (c : Dev nD) : (iprop(anyT c 0 ∗ anyT c 1) : sProp 𝕄) ⊢ anyB c cc0_scratch6 :=
  (Entails.of_eq (sep_two fun b => (anyT c b : sProp 𝕄)).symm).trans (pieces_join (pT c) t_cover t_apart)

def chunkE (c : Dev nD) : Fin 4 ≃ Fin 4 :=
  Equiv.ofBijective (fun e => chunk c 1 e) (Finite.injective_iff_bijective.mp fun e e' h => chunk_inj c 1 e e' h)

theorem xs4 (c : Dev nD) : (bigSep Finset.univ fun k : Fin 4 => ((c : Thread nD τ).loc main_arg0) ↦[pX c k]{fullShare} (m ((c : Thread nD τ).loc main_arg0)))
    = iprop(xPts m c (chunk c 1 0) ∗ xPts m c (chunk c 1 1) ∗ xPts m c (chunk c 1 2) ∗ xPts m c (chunk c 1 3)) := by
  rw [bigSep_univ_equiv (chunkE c), sep_four]; rfl

/-- The two operands, piece by piece. -/
theorem xs_eq (c : Dev nD) : (iprop((((c : Thread nD τ).loc main_arg0) ↦{fullShare} (m ((c : Thread nD τ).loc main_arg0)))
    ∗ (((c : Thread nD τ).loc main_arg1) ↦{fullShare} (m ((c : Thread nD τ).loc main_arg1)))) : sProp 𝕄) ⊢ Xs m c := by
  rw [pieces (pX c) x_cover x_apart, pieces (pW c) w_cover w_apart,
    xs4, sep_two]
  iintro ⟨HX, HW⟩
  unfold Xs
  isplitl [HW]; · iexact HW
  iexact HX
theorem xs_eq' (c : Dev nD) : Xs m c ⊢ (iprop((((c : Thread nD τ).loc main_arg0) ↦{fullShare} (m ((c : Thread nD τ).loc main_arg0)))
    ∗ (((c : Thread nD τ).loc main_arg1) ↦{fullShare} (m ((c : Thread nD τ).loc main_arg1)))) : sProp 𝕄) := by
  rw [pieces (pX c) x_cover x_apart, pieces (pW c) w_cover w_apart,
    xs4, sep_two]
  unfold Xs
  iintro ⟨HW, HX⟩
  isplitl [HX]; · iexact HX
  iexact HW

/-! ## What the lanes start from -/

theorem sep_dj (Φ : Fin 2 → Fin 4 → sProp 𝕄) : (bigSep Finset.univ fun x : DJ => Φ x.1 x.2) = Four fun j => iprop(Φ 0 j ∗ Φ 1 j) := by
  rw [bigSep_univ_prod, bigSep_univ_comm, sep_four]
  simp only [sep_two]

theorem bPays_eq (c : Dev nD) : (iprop(bPay c 0 ∗ bPay c 1) : sProp 𝕄)
    = bigSep Finset.univ fun x : DJ => bigSep Finset.univ fun s : Fin 3 => slot (nbr x.1 c) x.1 s x.2 0 := by
  rw [bigSep_univ_prod (fun x : DJ => _), sep_two]
  unfold bPay
  rw [bigSep_univ_prod, bigSep_univ_prod]

/-- A device's own slots, free, are what its two signals hand over. -/
theorem give_slots (c : Dev nD) :
    iprop(records m K ∗ bigSep Finset.univ fun x : DJ => bigSep Finset.univ fun s : Fin 3 => anyR c x.1 s x.2 fullShare)
      ⊢ iprop(bPay (nbr 1 c) 0 ∗ bPay (nbr 0 c) 1) := by
  have h : iprop(records m K ∗ bigSep Finset.univ fun x : DJ => bigSep Finset.univ fun s : Fin 3 => anyR c x.1 s x.2 fullShare)
      ⊢ bigSep Finset.univ fun x : DJ => bigSep Finset.univ fun s : Fin 3 => (slot c x.1 s x.2 0 : sProp 𝕄) :=
    bigSep_with_persistent fun x _ => bigSep_with_persistent fun s _ => by
      unfold slot
      iintro ⟨#HR, H⟩
      isplitl [H]; · iexact H
      iapply (records_r m K c x.1 s x.2); iexact HR
  refine h.trans (Entails.of_eq ?_)
  rw [bigSep_univ_prod (fun x : DJ => _), sep_two]
  unfold bPay
  rw [bigSep_univ_prod, bigSep_univ_prod, show nbr 0 (nbr 1 c) = c by rw [← src0, nbr_src], show nbr 1 (nbr 0 c) = c by rw [← src1, nbr_src]]

/-- What a lane starts from, all but the slots of the neighbour. -/
theorem half_intro (c : Dev nD) (d : Fin 2) (j : Fin 4) :
    iprop(records m K ∗ (bigSep (Finset.Ico 0 6) (credR c d j)) ∗ (bigSep Finset.univ fun s : Fin 3 => atPos ER (rCell c d s j) 0 ∅ 0)
        ∗ (bigSep (Finset.Ico 0 6) (tokS c d j)) ∗ (bigSep (Finset.Ico 0 6) (tokR c d j)) ∗ atPos ER (sCell c d j) 0 ∅ 0 ∗ anyS c d j
        ∗ (bigSep Finset.univ fun s : Fin 3 => slot (nbr d c) d s j 0))
      ⊢ Half0 c d j := by
  unfold Half0 LaneR LaneT
  rw [sep_three, sep_three, sep_ico3]
  iintro ⟨#HR, Hc, Hp, Ht, Htr, Hs, HS, Hsl⟩
  isplitl [Hc Hp]
  · isplitl [Hc]; · iexact Hc
    iexact Hp
  isplitl [Ht Htr Hs]
  · isplitl [Ht Htr]
    · isplitl [Ht] <;> iassumption
    isplitl [Hs]; · iexact Hs
    iapply (records_s m K c d j); iexact HR
  isplitl [HS]; · iexact HS
  iexact Hsl

theorem cols_intro (c : Dev nD) :
    iprop(records m K ∗ (bigSep Finset.univ fun x : DJ => bigSep (Finset.Ico 0 6) (credR c x.1 x.2))
        ∗ (bigSep Finset.univ fun x : DJ => bigSep Finset.univ fun s : Fin 3 => atPos ER (rCell c x.1 s x.2) 0 ∅ 0)
        ∗ (bigSep Finset.univ fun x : DJ => bigSep (Finset.Ico 0 6) (tokS c x.1 x.2))
        ∗ (bigSep Finset.univ fun x : DJ => bigSep (Finset.Ico 0 6) (tokR c x.1 x.2))
        ∗ (bigSep Finset.univ fun x : DJ => atPos ER (sCell c x.1 x.2) 0 ∅ 0) ∗ (bigSep Finset.univ fun x : DJ => anyS c x.1 x.2)
        ∗ bPay c 0 ∗ bPay c 1)
      ⊢ Four (Col0 c) := by
  rw [bPays_eq]
  simp only [← bigSep_sep']
  refine (bigSep_with_persistent fun x _ => half_intro m K c x.1 x.2).trans (Entails.of_eq ?_)
  rw [sep_dj (Half0 c)]
  rfl

/-- What the staging slots start from. -/
theorem sta_intro (c : Dev nD) :
    iprop(records m K ∗ (anyT c 0 ∗ anyT c 1) ∗ (bigSep Finset.univ fun b : Fin 2 => bigSep (Finset.Ico 0 3) (tokT c b))
        ∗ (bigSep Finset.univ fun b : Fin 2 => atPos ER (tCell c b) 0 ∅ 0))
      ⊢ iprop(StA c 0 0 ∗ StA c 1 0) := by
  rw [sep_two, sep_two]
  unfold StA
  iintro ⟨#HR, ⟨HT0, HT1⟩, ⟨Ht0, Ht1⟩, Ha0, Ha1⟩
  isplitl [HT0 Ht0 Ha0]
  · isplitl [HT0]; · iexact HT0
    isplitl [Ht0]; · iexact Ht0
    isplitl [Ha0]; · iexact Ha0
    iapply (records_t m K c 0); iexact HR
  isplitl [HT1]; · iexact HT1
  isplitl [Ht1]; · iexact Ht1
  isplitl [Ha1]; · iexact Ha1
  iapply (records_t m K c 1); iexact HR

theorem xq_intro (c : Dev nD) : anyB c cc0_scratch4 ⊢ XQ m c ∅ := by
  unfold XQ; iintro ⟨%f, H⟩; iexists f; isplitr
  · ipureintro; exact fun k hk => absurd hk (Finset.notMem_empty k)
  iexact H
theorem wq_intro (c : Dev nD) : anyB c cc0_scratch5 ⊢ WQ m c ∅ := by
  unfold WQ; iintro ⟨%f, H⟩; iexists f; isplitr
  · ipureintro; exact fun k hk => absurd hk (Finset.notMem_empty k)
  iexact H
theorem xq_elim (c : Dev nD) (S : Finset (Fin 4)) : XQ m c S ⊢ anyB c cc0_scratch4 := by
  unfold XQ; iintro ⟨%f, -, H⟩; iexists f; iexact H
theorem wq_elim (c : Dev nD) (S : Finset (Fin 2)) : WQ m c S ⊢ anyB c cc0_scratch5 := by
  unfold WQ; iintro ⟨%f, -, H⟩; iexists f; iexact H

/-! ## What the lanes leave -/

def Left (c : Dev nD) (d : Fin 2) (j : Fin 4) : sProp 𝕄 :=
  iprop(atPos ER (sCell c d j) 6 ∅ 0 ∗ (bigSep Finset.univ fun s : Fin 3 => atPos ER (rCell c d s j) 2 ∅ 0) ∗ anyS c d j
    ∗ (bigSep Finset.univ fun s : Fin 3 => anyR c d s j fullShare))

theorem left_intro (c : Dev nD) (d : Fin 2) (j : Fin 4) :
    iprop((LaneR c d j 6 ∗ LaneT c d j 6) ∗ anyS c d j ∗ anyR c d 0 j fullShare ∗ anyR c d 1 j fullShare ∗ anyR c d 2 j fullShare)
      ⊢ Left (F := F) c d j := by
  unfold LaneR LaneT Left
  rw [sep_three, sep_three, sep_ico3]
  iintro ⟨⟨⟨-, Hp⟩, -, Hs, -⟩, HS, HR⟩
  isplitl [Hs]; · iexact Hs
  isplitl [Hp]; · iexact Hp
  isplitl [HS]; · iexact HS
  iexact HR

theorem cole_left (c : Dev nD) (j : Fin 4) : (ColE c j : sProp 𝕄) ⊢ iprop(Left c 0 j ∗ Left c 1 j) := by
  unfold ColE
  iintro ⟨⟨L0, L1⟩, ⟨S0, S1⟩, ⟨A0, A1⟩, ⟨B0, B1⟩, C0, C1⟩
  isplitl [L0 S0 A0 B0 C0]
  · iapply (left_intro (F := F) c 0 j)
    isplitl [L0]; · iexact L0
    isplitl [S0]; · iexact S0
    isplitl [A0]; · iexact A0
    isplitl [B0] <;> iassumption
  · iapply (left_intro (F := F) c 1 j)
    isplitl [L1]; · iexact L1
    isplitl [S1]; · iexact S1
    isplitl [A1]; · iexact A1
    isplitl [B1] <;> iassumption

theorem cols_left (c : Dev nD) : (Four (ColE c) : sProp 𝕄)
    ⊢ iprop((bigSep Finset.univ fun x : DJ => atPos ER (sCell c x.1 x.2) 6 ∅ 0)
        ∗ (bigSep Finset.univ fun x : DJ => bigSep Finset.univ fun s : Fin 3 => atPos ER (rCell c x.1 s x.2) 2 ∅ 0)
        ∗ (bigSep Finset.univ fun x : DJ => anyS c x.1 x.2)
        ∗ (bigSep Finset.univ fun x : DJ => bigSep Finset.univ fun s : Fin 3 => anyR c x.1 s x.2 fullShare)) := by
  rw [← bigSep_sep', ← bigSep_sep', ← bigSep_sep', ← sep_four]
  have h : (bigSep Finset.univ fun j => iprop(Left c 0 j ∗ Left c 1 j)) = (bigSep Finset.univ fun x : DJ => Left (F := F) c x.1 x.2) := by
    rw [sep_four, sep_dj (Left c)]
  exact (bigSep_mono fun j _ => cole_left c j).trans (Entails.of_eq h)

/-- A cell whose rounds are all over closes: its counter is at zero. -/
theorem close_cell (c : Dev nD) (k : Fin 35) :
    iprop(ctx m K ∗ atPos ER (kcell (c, k)) (nR (kd (csem k))) ∅ 0) ⊢ |={Set.univ}=> semVal (kcell (c, k)) 0 := by
  iintro ⟨#Hc, H⟩
  iapply (Rounds.cell_close ER (Rd m) (Set.mem_univ (K (c, k))) (fun h => h) (R := nR (kd (csem k))) fun r' hr => duties_late m (kcell (c, k)) r' hr)
  isplitr; · iapply (ctx_cell m K c k); iexact Hc
  iexact H

theorem close_cells (c : Dev nD) :
    iprop(ctx m K ∗ atPos ER (bCell c) 1 ∅ 0 ∗ (bigSep Finset.univ fun x : DJ => atPos ER (sCell c x.1 x.2) 6 ∅ 0)
        ∗ (bigSep Finset.univ fun x : DJ => bigSep Finset.univ fun s : Fin 3 => atPos ER (rCell c x.1 s x.2) 2 ∅ 0)
        ∗ (bigSep Finset.univ fun b : Fin 2 => atPos ER (tCell c b) 3 ∅ 0))
      ⊢ |={Set.univ}=> bigSep Finset.univ fun k : Fin 35 => semVal (kcell (c, k)) 0 := by
  have h := sep_cells (F := F) fun sm => atPos ER ((c : Thread nD τ), sm) (nR (kd sm)) ∅ 0
  simp only [kd_b, kd_s, kd_r, kd_t] at h
  refine (sep_mono_right (Entails.of_eq h.symm)).trans ?_
  exact (bigSep_with_persistent fun k _ => close_cell m K c k).trans (bigSep_fupd _ _)

end Cert.KernelIdeal.Roll

end
-- ==== Proof.Launch.lean ====
/- The launch: the body between what a device starts from and what it leaves, and the run of the whole program. -/
module

public import proofs.«01_k».proof.Proof.Bufs
public import Idealize.ShloMosaic.Lib.Pipeline.Value
public import Idealize.ShloMosaic.Lib.Pipeline.Launch
public import Idealize.ShloMosaic.Lib.Quiescent
public import Idealize.ShloMosaic.Lib.Pipeline.CollectiveSegs

@[expose] public section

noncomputable section

namespace Cert.KernelIdeal.Roll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Bool (Elt F) ℕ UU ℕ

variable (m : (ℓ : Loc nD τ sig) → Buf (Elt F) ℓ) (K : Dev nD × Fin 35 → ℕ)

/-! ## The result, index by index -/

/-- The place on the ring at which device `c` meets the rows `k`. -/
def plc (c : Dev nD) (d : Fin 2) (k : Fin 4) : Fin 4 := ⟨(c.val * (1 + 2 * d.val) + k.val * (3 + 2 * d.val + 4 * d.val)) % 4, Nat.mod_lt _ (by decide)⟩
theorem chunk_plc : ∀ (c : Dev nD) (d : Fin 2) (k : Fin 4), chunk c d (plc c d k) = k := by decide

theorem row_lt (i : S4096x2048.Idx) : (i 0).val < 4096 := (i 0).isLt
theorem col_lt (i : S4096x2048.Idx) : (i 1).val < 2048 := (i 1).isLt

/-- The half, the block, the quarter an index of the result lies in, and where. -/
def hOf (i : S4096x2048.Idx) : Fin 2 := ⟨(i 1).val / 1024, by have := col_lt i; omega⟩
def kOf (i : S4096x2048.Idx) : Fin 4 := ⟨(i 0).val / 1024, by have := row_lt i; omega⟩
def jOf (i : S4096x2048.Idx) : Fin 4 := ⟨(i 0).val % 1024 / 256, by omega⟩
def inOf (i : S4096x2048.Idx) : S256x1024.Idx := fun a =>
  ⟨(![(i 0).val % 256, (i 1).val % 1024] : Fin 2 → ℕ) a, by
    fin_cases a
    · exact Nat.mod_lt _ (by decide : 0 < 256)
    · exact Nat.mod_lt _ (by decide : 0 < 1024)⟩

theorem emb_inOf (i : S4096x2048.Idx) : (subOff (kOf i) (jOf i) (hOf i)).rect.emb (inOf i) = i := by
  refine funext fun a => Fin.ext ?_
  fin_cases a
  · show 1024 * ((i 0).val / 1024) + 256 * ((i 0).val % 1024 / 256) + 1 * ((i 0).val % 256) = (i 0).val; omega
  · show 1024 * ((i 1).val / 1024) + 1 * ((i 1).val % 1024) = (i 1).val; omega

/-- The result array of device `c`. -/
def outV (c : Dev nD) : S4096x2048.Idx → Elt F .f32 := fun i => res m c (hOf i) (plc c (hOf i) (kOf i)) (jOf i) (inOf i)

theorem spec_out (c : Dev nD) (q : ℕ) (f : mO.view.ty.Contents (Elt F)) (h : Spec m c q 32 f) : f = outV m c := by
  funext i
  have h1 := (h (hOf i) (plc c (hOf i) (kOf i)) (jOf i)).1 (by
    have := (hOf i).isLt; have := (jOf i).isLt; omega)
  rw [chunk_plc] at h1
  have h2 := congrFun h1 (inOf i)
  rw [View.read_apply] at h2
  show f i = res m c (hOf i) (plc c (hOf i) (kOf i)) (jOf i) (inOf i)
  rw [← h2]
  show f i = f ((subOff (kOf i) (jOf i) (hOf i)).rect.emb (inOf i))
  rw [emb_inOf]

/-! ## What a device starts from and what it leaves -/

/-- The two operands, as the run finds them. -/
def args (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1)))
/-- The scratch buffers. -/
def bufs (c : Dev nD) : sProp 𝕄 :=
  iprop(anyB c cc0_scratch0 ∗ anyB c cc0_scratch1 ∗ anyB c cc0_scratch4 ∗ anyB c cc0_scratch5 ∗ anyB c cc0_scratch6)
def credsOf (c : Dev nD) : sProp 𝕄 :=
  iprop(cred (tallyAt (bCell c) false 2) ∗ bigSep Finset.univ fun x : DJ => bigSep (Finset.Ico 0 6) (credR c x.1 x.2))
def start (c : Dev nD) : sProp 𝕄 := iprop(G' m c ∗ credsOf c ∗ levAts L lv ∗ args m c)
def Φ₀ (c : Dev nD) : sProp 𝕄 := iprop(start m c ∗ bufs c)
def Φ₁ (c : Dev nD) : sProp 𝕄 := iprop((bigSep Finset.univ fun k : Fin 35 => semVal (kcell (c, k)) 0) ∗ args m c ∗ bufs c)

/-- A scale argument as it is staged. -/
def stgA (c : Dev nD) : (cc0_stg0_0 : Ref sig .tc).ty.Contents (Elt F) := (win0_0.blk (0 : Fin 1)).view.read (Elt F) (m ((c : Thread nD τ).loc main_arg2))
def stgB (c : Dev nD) : (cc0_stg1_0 : Ref sig .tc).ty.Contents (Elt F) := (win0_1.blk (0 : Fin 1)).view.read (Elt F) (m ((c : Thread nD τ).loc main_arg3))

def dats (_ : Fin 1) (c : Dev nD) : Dat τ (Elt F) Bool ℕ UU ℕ cfg0 c where
  A w := m ((cfg0.win w).arr.view.loc (c : Thread nD τ))
  after w _ := match w with
    | ⟨0, _⟩ => stgA m c
    | ⟨1, _⟩ => stgB m c
    | ⟨2, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem sep_win (Φ : Fin cfg0.W → sProp 𝕄) : bigSep Finset.univ Φ = iprop(Φ (0 : Fin 3) ∗ Φ (1 : Fin 3) ∗ Φ (2 : Fin 3)) := bigSep_W0 Φ

theorem owns_all (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem one_idx (i i' : S1.Idx) : i = i' := funext fun a => Fin.ext (by
  have h : ∀ a : Fin 1, S1.size a = 1 := by decide
  have h1 := (i a).isLt; have h2 := (i' a).isLt
  have h3 := h a
  omega)
theorem stgA_at (c : Dev nD) (i : S1.Idx) : stgA m c i = sclA m c := by
  unfold stgA; rw [View.read_apply]
  exact congrArg (m ((c : Thread nD τ).loc main_arg2)) (one_idx _ _)
theorem stgB_at (c : Dev nD) (i : S1.Idx) : stgB m c i = sclB m c := by
  unfold stgB; rw [View.read_apply]
  exact congrArg (m ((c : Thread nD τ).loc main_arg3)) (one_idx _ _)

/-! ## The body -/

/-- What the lanes, the staging slots and the caches start from, put together. -/
theorem parts_intro (c : Dev nD) :
    iprop(records m K ∗ levAts L lv
        ∗ (bigSep Finset.univ fun x : DJ => bigSep (Finset.Ico 0 6) (credR c x.1 x.2))
        ∗ ((bigSep Finset.univ fun x : DJ => atPos ER (sCell c x.1 x.2) 0 ∅ 0)
          ∗ (bigSep Finset.univ fun x : DJ => bigSep Finset.univ fun s : Fin 3 => atPos ER (rCell c x.1 s x.2) 0 ∅ 0)
          ∗ (bigSep Finset.univ fun b : Fin 2 => atPos ER (tCell c b) 0 ∅ 0))
        ∗ ((bigSep Finset.univ fun x : DJ => bigSep (Finset.Ico 0 6) (tokS c x.1 x.2))
          ∗ (bigSep Finset.univ fun x : DJ => bigSep (Finset.Ico 0 6) (tokR c x.1 x.2))
          ∗ (bigSep Finset.univ fun b : Fin 2 => bigSep (Finset.Ico 0 3) (tokT c b)))
        ∗ (bPay c 0 ∗ bPay c 1) ∗ (bigSep Finset.univ fun x : DJ => anyS c x.1 x.2)
        ∗ (anyB c cc0_scratch4 ∗ anyB c cc0_scratch5 ∗ anyB c cc0_scratch6) ∗ args m c
        ∗ (∃ f : Buf (Elt F) ((c : Thread nD τ).loc cc0_stg2_0), ((c : Thread nD τ).loc cc0_stg2_0) ↦{fullShare} f))
      ⊢ iprop(ctx m K ∗ Four (Col0 c) ∗ (StA c 0 0 ∗ StA c 1 0) ∗ Xs m c ∗ (XQ m c ∅ ∗ WQ m c ∅ ∗ Out m c 0 0)) := by
  unfold args Out
  iintro ⟨#HR, #HL, Hc, ⟨Has, Har, Hat⟩, ⟨Hts, Htr, Htt⟩, ⟨Hb0, Hb1⟩, HS, ⟨H4, H5, H6⟩, Hx, ⟨%f, Ho⟩⟩
  ihave H6' := (split_t (F := F) c) $$ H6
  isplitr
  · iapply (records_ctx m K)
    isplitr; · iexact HR
    iexact HL
  isplitl [Hc Has Har Hts Htr Hb0 Hb1 HS]
  · iapply (cols_intro m K c)
    isplitr; · iexact HR
    isplitl [Hc]; · iexact Hc
    isplitl [Har]; · iexact Har
    isplitl [Hts]; · iexact Hts
    isplitl [Htr]; · iexact Htr
    isplitl [Has]; · iexact Has
    isplitl [HS]; · iexact HS
    isplitl [Hb0] <;> iassumption
  isplitl [Hat Htt H6']
  · iapply (sta_intro m K c)
    isplitr; · iexact HR
    isplitl [H6']; · iexact H6'
    isplitl [Htt] <;> iassumption
  isplitl [Hx]; · iapply (xs_eq m c); iexact Hx
  isplitl [H4]; · iapply (xq_intro m c); iexact H4
  isplitl [H5]; · iapply (wq_intro m c); iexact H5
  iexists f
  isplitr
  · ipureintro; exact fun d e j => ⟨fun h => absurd h (Nat.not_lt_zero _), fun _ h => absurd h (Nat.not_lt_zero _)⟩
  iexact Ho

theorem ends (c : Dev nD) :
    iprop(ctx m K ∗ atPos ER (bCell c) 1 ∅ 0 ∗ Four (ColE c) ∗ (StA c 0 3 ∗ StA c 1 3) ∗ Xs m c ∗ XQ m c (X4 c) ∗ WQ m c W2)
      ⊢ |={Set.univ}=> Φ₁ m c := by
  unfold Φ₁ bufs args StA
  iintro ⟨#HI, Hb, Hcol, ⟨⟨HT0, -, Ht0, -⟩, HT1, -, Ht1, -⟩, Hx, HX, HW⟩
  ihave Hl := (cols_left (F := F) c) $$ Hcol
  icases Hl with ⟨Has, Har, HS, HR⟩
  imod (close_cells m K c) $$ [Hb Has Har Ht0 Ht1] with HZ
  · isplitr; · iexact HI
    isplitl [Hb]; · iexact Hb
    isplitl [Has]; · iexact Has
    isplitl [Har]; · iexact Har
    rw [sep_two]
    isplitl [Ht0] <;> iassumption
  imodintro
  isplitl [HZ]; · iexact HZ
  isplitl [Hx]; · iapply (xs_eq' m c); iexact Hx
  isplitl [HS]; · iapply (join_s (F := F) c); iexact HS
  isplitl [HR]; · iapply (join_r (F := F) c); iexact HR
  isplitl [HX]; · iapply (xq_elim m c (X4 c)); iexact HX
  isplitl [HW]; · iapply (wq_elim m c W2); iexact HW
  iapply (join_t (F := F) c)
  isplitl [HT0] <;> iassumption

/-- The one word of a scale argument. -/
abbrev r1 : Rect S1 := Rect.unit (s := S1) ![0] S1.size inb_S1_S1_0

theorem word_A (c : Dev nD) (x : r1.shape.Idx) : (mA.access r1).read (Elt F) (stgA m c) x = sclA m c := by
  rw [View.read_apply]; exact stgA_at m c _
theorem word_B (c : Dev nD) (x : r1.shape.Idx) : (mB.access r1).read (Elt F) (stgB m c) x = sclB m c := by
  rw [View.read_apply]; exact stgB_at m c _

/-- The body, its operations one after the other. -/
theorem roll_flat : (roll : P F) = .op .deviceId fun c =>
    smemLoadElt mA r1 (View.loads_smem_one rfl numel1_S1) (Shape.Idx.first (numel1_S1.symm ▸ Nat.one_pos)) fun a =>
    smemLoadElt mB r1 (View.loads_smem_one rfl numel1_S1) (Shape.Idx.first (numel1_S1.symm ▸ Nat.one_pos)) fun b =>
    .op (.semSignal (lft c, .tc) bSem (1#32).toInt) fun _ =>
    .op (.semSignal (rgt c, .tc) bSem (1#32).toInt) fun _ =>
    .op (.semWait bSem (2#32).toInt) fun _ => rest c (Scalar.mulf a b) := rfl

def bodyPre (c : Dev nD) : sProp 𝕄 :=
  iprop(Φ₀ m c ∗ (dats m 0 c).owesAt false t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ m c ∗ (dats m 0 c).owesAt false t0_0.succ ∗ stg c cc0_stg0_0 (stgA m c) ∗ stg c cc0_stg1_0 (stgB m c) ∗ stg c cc0_stg2_0 (outV m c))

/-- What a device has when the hand-shake starts, by kind. -/
theorem linear_eq (c : Dev nD) : (linear c : sProp 𝕄)
    = iprop((atPos ER (bCell c) 0 ∅ 0 ∗ (bigSep Finset.univ fun x : DJ => atPos ER (sCell c x.1 x.2) 0 ∅ 0)
        ∗ (bigSep Finset.univ fun x : DJ => bigSep Finset.univ fun s : Fin 3 => atPos ER (rCell c x.1 s x.2) 0 ∅ 0)
        ∗ (bigSep Finset.univ fun b : Fin 2 => atPos ER (tCell c b) 0 ∅ 0)) ∗ payToks c) := by
  unfold linear
  exact congrArg (fun X => iprop(X ∗ payToks c)) (sep_cells fun sm => atPos ER ((c : Thread nD τ), sm) 0 ∅ 0)

set_option maxHeartbeats 800000 in
/-- The body, from what it starts from to what it leaves. -/
theorem sound_body (c : Dev nD) (Q : PUnit → sProp 𝕄) :
    iprop(bodyPre m c ∗ (bodyPost m c -∗ Q ⟨⟩)) ⊢ WP c roll Q := by
  unfold bodyPre Φ₀ start G' credsOf bufs
  simp only [linear_eq]
  unfold payToks
  rw [roll_flat]
  unfold WP
  simp only [wp_deviceId, rgt_eq, lft_eq]
  iintro ⟨⟨⟨⟨⟨%K, #HR, ⟨HaB, HaS, HaR, HaT⟩, ⟨HtL, HtG⟩, HtS, HtR, HtT⟩, ⟨HcB, HcR⟩, #HL, Hx⟩, ⟨B0, B1, B4, B5, B6⟩⟩,
    Ho, ⟨%d0, %g0, %hg0, HA⟩, ⟨%d1, %g1, %hg1, HB⟩, ⟨%d2, %g2, -, HO⟩⟩, Hk⟩
  iapply (wp_fupd Idealize.ShloMosaic.frame (wpE (defs₀ (F := F)) 𝒱₀ (c : Thread nD τ) none) Set.univ _ Q)
  have h0 : g0 = stgA m c := by rw [hg0]; unfold Dat.before; rw [if_pos (fetch0_0 t0_0)]; rfl
  have h1 : g1 = stgB m c := by rw [hg1]; unfold Dat.before; rw [if_pos (fetch0_1 t0_0)]; rfl
  subst h0; subst h1
  unfold Dat.owesAt Pipeline.owesWithin
  icases Ho with ⟨%W, %hW, Ho⟩
  rw [show (dats m 0 c).owed t0_0.castSucc = O₀ c from rfl]
  ihave #HI := (records_ctx m K) $$ []
  · isplitr; · iexact HR
    iexact HL
  iapply (wp_smemLoadElt 𝒱₀ (c : Thread nD τ) none Set.univ (m := mA) (r := r1) (S := Finset.univ) (f := stgA m c) (Finset.subset_univ _)) $$ HA; iintro HA
  iapply (wp_smemLoadElt 𝒱₀ (c : Thread nD τ) none Set.univ (m := mB) (r := r1) (S := Finset.univ) (f := stgB m c) (Finset.subset_univ _)) $$ HB; iintro HB
  ihave HS := (split_s (F := F) c) $$ B0
  ihave Hr := (split_r (F := F) c) $$ B1
  ihave Hg := (give_slots m K c) $$ [Hr]
  · isplitr; · iexact HR
    iexact Hr
  icases Hg with ⟨HgL, HgR⟩
  iapply (Rounds.wp_signal 𝒱₀ ER (Rd m) (c : Thread nD τ) none (dst := (nbr 1 c : Thread nD τ)) (κ := K (nbr 1 c, 0))
      (d := 0) (by rw [duties_b]; exact Finset.mem_univ _) ((amount_b m (nbr 1 c) 0 0).trans (by decide)) false (O₁ c) rfl) $$ [Ho HtL HgL]
  · isplitr; · iapply (ctx_b m K (nbr 1 c)); iexact HI
    isplitl [Ho]; · iexact Ho
    isplitl [HtL]; · iexact HtL
    isplitl [HgL]; · rw [payload_b]; iexact HgL
    iapply (records_b m K (nbr 1 c)); iexact HR
  iintro Ho
  unfold O₁
  iapply (Rounds.wp_signal 𝒱₀ ER (Rd m) (c : Thread nD τ) none (dst := (nbr 0 c : Thread nD τ)) (κ := K (nbr 0 c, 0))
      (d := 1) (by rw [duties_b]; exact Finset.mem_univ _) ((amount_b m (nbr 0 c) 0 1).trans (by decide)) false (owedF c 0) rfl) $$ [Ho HtG HgR]
  · isplitr; · iapply (ctx_b m K (nbr 0 c)); iexact HI
    isplitl [Ho]; · iexact Ho
    isplitl [HtG]; · iexact HtG
    isplitl [HgR]; · rw [payload_b]; iexact HgR
    iapply (records_b m K (nbr 0 c)); iexact HR
  iintro Ho
  iapply (Rounds.wp_wait_rest_token 𝒱₀ ER (Rd m) (c : Thread nD τ) none (κ := K (c, 0))
      (wpE_semWait_eq 𝒱₀ (c : Thread nD τ) none Set.univ) (Set.mem_univ _) false (O := owedF c 0) (W := W) (R := 0) (m := 0) (T := ∅)
      (by rw [expect_b]; decide)) $$ [HcB Ho HaB]
  · isplitr; · iapply (ctx_b m K c); iexact HI
    isplitl [HcB]; · iexact HcB
    isplitl [Ho]; · iexact Ho
    isplitr
    · iapply (mayWait (F := F) c (.reg bSem) false 0 (by show (1 : ℕ) < 2; decide)); iexact HL
    iexact HaB
  iintro ⟨Ho, HaB, -, Hp⟩
  ihave Hp := (Entails.of_eq (rest_b m c)) $$ Hp
  ihave HP := (parts_intro m K c) $$ [HcR HaS HaR HaT HtS HtR HtT Hp HS B4 B5 B6 Hx HO]
  · isplitr; · iexact HR
    isplitr; · iexact HL
    isplitl [HcR]; · iexact HcR
    isplitl [HaS HaR HaT]
    · isplitl [HaS]; · iexact HaS
      isplitl [HaR] <;> iassumption
    isplitl [HtS HtR HtT]
    · isplitl [HtS]; · iexact HtS
      isplitl [HtR] <;> iassumption
    isplitl [Hp]; · iexact Hp
    isplitl [HS]; · iexact HS
    isplitl [B4 B5 B6]
    · isplitl [B4]; · iexact B4
      isplitl [B5] <;> iassumption
    isplitl [Hx]; · iexact Hx
    iexists g2; iexact HO
  icases HP with ⟨-, Hcol, Hst, HX, Hc⟩
  rw [word_A, word_B, show Scalar.mulf (sclA m c) (sclB m c) = scl m c from rfl]
  iapply (wp_rest m K c) $$ [Ho Hcol Hst HX Hc]
  · isplitr; · iexact HI
    isplitl [Hcol]; · iexact Hcol
    isplitl [Hst]; · iexact Hst
    isplitl [HX]; · iexact HX
    isplitl [Hc]; · iexact Hc
    unfold Ow
    iexists _; iexact Ho
  iintro ⟨Hcol, Hst, HX, ⟨Hq, Hw, Hout⟩, Ho⟩
  unfold Ow Out
  icases Hout with ⟨%f, %hf, Hout⟩
  have hf' := spec_out m c 8 f hf
  subst hf'
  icases Ho with ⟨%W', Ho⟩
  imod (ends m K c) $$ [HaB Hcol Hst HX Hq Hw] with HΦ
  · isplitr; · iexact HI
    isplitl [HaB]; · iexact HaB
    isplitl [Hcol]; · iexact Hcol
    isplitl [Hst]; · iexact Hst
    isplitl [HX]; · iexact HX
    isplitl [Hq] <;> iassumption
  imodintro
  iapply Hk
  unfold bodyPost Dat.owesAt Pipeline.owesWithin
  rw [show (dats m 0 c).owed t0_0.succ = 0 from rfl, ← owedF_end c]
  isplitl [HΦ]; · iexact HΦ
  isplitl [Ho]
  · iexists W'
    isplitr; · ipureintro; exact fun _ _ => Or.inl trivial
    iexact Ho
  isplitl [HA]
  · iexists _; isplitr; · (ipureintro; rfl)
    iexact HA
  isplitl [HB]
  · iexists _; isplitr; · (ipureintro; rfl)
    iexact HB
  iexists _; isplitr; · (ipureintro; rfl)
  iexact Hout

/-- The row of the body table is the body. -/
theorem body_row (t : Fin cfg0.N) : defs₀ (F := F) .tc cfg0.body (cfg0.bodyArgs t (cfg0.slots t)) = roll := by
  unfold defs₀; rw [Defs.onTc_tc]; exact body_eq_roll t

set_option maxRecDepth 65536 in
/-- The body obligation of the launch. -/
theorem body_obligation (c : Dev nD) : BodyObligation (dats (F := F) m 0 c) (defs₀ (F := F)) 𝒱₀ false Set.univ := fun t => by
  rw [fin_N0 t, sep_win, sep_win, body_row]
  simp only [owns_all]
  have h := sound_body m c (fun _ => bodyPost m c)
  show bodyPre m c ⊢ WP c roll (fun _ => bodyPost m c)
  iintro H
  iapply h
  isplitl [H]; · iexact H
  iintro H'; iexact H'

/-! ## The launch's side conditions -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start args credsOf
  iintro ⟨⟨Hx, Hw⟩, Hl, Hcr, -, HG⟩
  ihave Hc := (creds (F := F) c) $$ Hcr
  imodintro
  isplitl
  · isplitl [HG]; · iexact HG
    isplitl [Hc]; · iexact Hc
    isplitl [Hl]; · iexact Hl
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs anyB
  iintro ⟨Hs, -, Hr⟩
  isplitl [Hs] <;> iassumption

/-- What a device hands back. -/
def rets (c : Dev nD) : sProp 𝕄 := iprop(unscopedSems0 c ∗ args m c)

theorem phi1_exit (c : Dev nD) :
    (dats m 0 c).Φ (Fin.last cfg0.N) ⊢ iprop(rets m c ∗ Pipeline.ownSems0 osem c ∗ Pipeline.scopedRest cfg0.spec c) := by
  rw [show (dats m 0 c).Φ (Fin.last cfg0.N) = Φ₁ m c from rfl, scopedRest0_eq]
  unfold Φ₁ rets bufs anyB
  rw [← sems0_eq]
  iintro ⟨⟨Hu, Hs⟩, Hx, Hr⟩
  isplitl [Hu Hx]
  · isplitl [Hu] <;> iassumption
  isplitl [Hs] <;> iassumption

theorem waits (c : Dev nD) : (levAts L lv : sProp 𝕄) ⊢ Pipeline.cellsWaits cfgs (dats m) false 0 c :=
  Pipeline.cellsWaits_intro cfgs (dats m) false 0 c fun w s t => by
    rcases t with ⟨_ | n, ht⟩
    · exact mayWait₀ c _ false (by fin_cases w <;> fin_cases s <;> rfl)
    · show _ ⊢ MayWait _ _ _ 0
      rw [MayWait_zero]; iintro -; iempintro

/-- What holds of the memory when a device is done. -/
def Fin_ (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem rets_read (c : Dev nD) (s' : Phys nD τ sig (Elt F)) :
    iprop(rets m c ∗ emp ∗ SI s') ⊢ |={Set.univ}=> iprop(⌜Fin_ m c s'.mem⌝ ∗ (SI s' : sProp 𝕄)) := by
  unfold rets args
  iintro ⟨⟨Hu, Hx, Hw⟩, -, HSI⟩
  ihave %h0 := (SI_pointsTo_agree (st := s')) $$ [HSI Hx]
  · isplitl [HSI] <;> iassumption
  ihave %h1 := (SI_pointsTo_agree (st := s')) $$ [HSI Hw]
  · isplitl [HSI] <;> iassumption
  imod (Pipeline.unscopedSems0_read (X := unscopedSems0 c) (c := c) fupd_intro s') $$ [Hu HSI] with ⟨%h2, HSI⟩
  · isplitl [Hu] <;> iassumption
  imodintro
  isplitr
  · ipureintro
    exact ⟨h2, funext fun i => h0 i (Finset.mem_univ _), funext fun i => h1 i (Finset.mem_univ _)⟩
  iexact HSI

/-! ## The run -/

/-- The array of window `w` on device `c` at the end. -/
def endA (c : Dev nD) (w : Fin cfg0.W) : Buf (Elt F) ((cfg0.win w).arr.view.loc (c : Thread nD τ)) := (dats m 0 c).arrAt w cfg0.N

theorem endA_a (c : Dev nD) : endA m c (0 : Fin 3) = m ((c : Thread nD τ).loc main_arg2) := (dats (F := F) m 0 c).arrAt_in (0 : Fin 3) rfl _
theorem endA_b (c : Dev nD) : endA m c (1 : Fin 3) = m ((c : Thread nD τ).loc main_arg3) := (dats (F := F) m 0 c).arrAt_in (1 : Fin 3) rfl _
theorem whole_emb (i : S4096x2048.Idx) : ((cfg0.win (2 : Fin 3)).blk t0_0).view.emb i = i := by
  refine funext fun a => Fin.ext ?_
  fin_cases a
  · show 0 * 4096 + 1 * (i 0).val = (i 0).val; omega
  · show 0 * 2048 + 1 * (i 1).val = (i 1).val; omega
theorem endA_out (c : Dev nD) : endA m c (2 : Fin 3) = outV m c := by
  refine (dats (F := F) m 0 c).arrAt_eq_of_cover (2 : Fin 3) (outV m c) ?_ ?_
  · intro t _
    rw [fin_N0 t]
    funext i
    rw [View.read_apply]
    show outV m c _ = outV m c _
    exact congrArg (outV m c) (whole_emb i).symm
  · intro i
    refine ⟨t0_0, flush0_2 t0_0, ?_⟩
    rw [← whole_emb i]
    exact View.emb_mem_set _ _

set_option maxRecDepth 65536 in
/-- From any memory with zero counters every run ends, on each device the result array holding `outV` and the four
    arguments what they held, and every counter at zero. -/
theorem run_main (ρ : Dev nD → PrngReg) : θ_run defs (onTc (τ := τ) (main (F := F))) ⟨m, fun _ => 0, ρ⟩ (fun r =>
    (∀ c : Dev nD, r.2.mem ((c : Thread nD τ).loc main_v1) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := rets m) (Z := fun _ => iprop(emp))
    (hX := start_intro m ρ) (hin := phi0_intro m) (hout := phi1_exit m)
    (QY := Fin_ m) (hY := rets_read m)
    (hQ := fun _ h hs => ⟨fun c => ⟨((h c).1 (2 : Fin 3)).trans (endA_out m c), (h c).2.2.2.1, (h c).2.2.2.2,
        ((h c).1 (0 : Fin 3)).trans (endA_a m c), ((h c).1 (1 : Fin 3)).trans (endA_b m c)⟩,
      sem_eq_zero hs fun c => (h c).2.2.1⟩)

end Cert.KernelIdeal.Roll

end
-- ==== Proof.Value.lean ====
/- What the result is over the extended reals: the whole product, scaled, its negative part dropped. -/
module

public import proofs.«01_k».proof.Proof.Launch
public import proofs.«01_k».proof.Proof.Gen.ReferenceIdeal
public import proofs.«01_k».proof.Proof.Gen.ReferenceIdeal.Run
public import Idealize.ShloMosaic.Lib.Pointwise
public import Idealize.ShloMosaic.Lib.Layout

@[expose] public section

noncomputable section

namespace Cert.KernelIdeal.Roll

open Idealize.ShloMosaic Idealize.ShloMosaic.TcCoe
open Idealize.ShloMosaic.Pointwise
open Cert.KernelIdeal.Gen

variable (m : (ℓ : Loc nD τ sig) → Buf (Elt Ideal) ℓ)

/-! ## Once around the ring -/

theorem chunk_src : ∀ (c : Dev nD) (d : Fin 2) (e : Fin 4), chunk (src d c) d e = chunk c d (e + 1) := by decide
theorem chunk_back : ∀ (c : Dev nD) (d : Fin 2),
    chunk (src d c) d 3 = chunk c d 0 ∧ chunk (src d (src d c)) d 3 = chunk c d 1
      ∧ chunk (src d (src d (src d c))) d 3 = chunk c d 2 := by decide
theorem chunk_fwd : ∀ (c : Dev nD) (d : Fin 2),
    chunk (src d c) d 2 = chunk c d 3 ∧ chunk (src d (src d c)) d 1 = chunk c d 3
      ∧ chunk (src d (src d (src d c))) d 0 = chunk c d 3 := by decide

/-- The four devices met going back along the ring are all of them. -/
theorem sum_ring {M : Type} [AddCommMonoid M] (f : Dev nD → M) (c : Dev nD) (d : Fin 2) :
    f c + (f (src d c) + (f (src d (src d c)) + f (src d (src d (src d c))))) = ∑ x : Fin 4, f x := by
  have key : ∀ (c : Fin 4) (d : Fin 2), ({c, src d c, src d (src d c), src d (src d (src d c))} : Finset (Fin 4)) = Finset.univ
      ∧ c ∉ ({src d c, src d (src d c), src d (src d (src d c))} : Finset (Fin 4))
      ∧ src d c ∉ ({src d (src d c), src d (src d (src d c))} : Finset (Fin 4))
      ∧ src d (src d c) ∉ ({src d (src d (src d c))} : Finset (Fin 4)) := by decide
  obtain ⟨h, h1, h2, h3⟩ := key c d
  rw [← h, Finset.sum_insert h1, Finset.sum_insert h2, Finset.sum_insert h3, Finset.sum_singleton]

/-- Rows `k` of half `d`, summed over the devices, scaled, the negative part dropped. -/
def tot (s : EReal) (k : Fin 4) (d : Fin 2) (j : Fin 4) (x : S256x1024.Idx) : EReal :=
  max ((∑ c : Fin 4, (blkS m c k d j x : EReal)) * s) 0

theorem Y_tot (c : Dev nD) (d : Fin 2) (j : Fin 4) (x : S256x1024.Idx) :
    Y m c d j x = tot m (scl m c) (chunk c d 3) d j x := by
  obtain ⟨e1, e2, e3⟩ := chunk_fwd c d
  unfold tot
  rw [← sum_ring (fun c' => (blkS m c' (chunk c d 3) d j x : EReal)) c d]
  simp only [Y, endV, addV, widV, SV, rndV, shapeCast_self, e1, e2, e3]
  pointwise

theorem SV3_Y (c : Dev nD) (d : Fin 2) (j : Fin 4) (x : S256x1024.Idx) : widV (SV m d j 3 c) x = Y m c d j x := rfl

theorem res_tot (s : EReal) (hs : ∀ c, scl m c = s) (c : Dev nD) (d : Fin 2) (e : Fin 4) (j : Fin 4) (x : S256x1024.Idx) :
    res m c d e j x = tot m s (chunk c d e) d j x := by
  obtain ⟨e1, e2, e3⟩ := chunk_back c d
  match e with
  | 0 => exact (Y_tot m (src d c) d j x).trans (by rw [hs, e1]; rfl)
  | 1 => exact (Y_tot m (src d (src d c)) d j x).trans (by rw [hs, e2]; rfl)
  | 2 => exact (Y_tot m (src d (src d (src d c))) d j x).trans (by rw [hs, e3]; rfl)
  | 3 => exact (Y_tot m c d j x).trans (by rw [hs]; rfl)

/-! ## A block of the product -/

theorem blkS_sum (c : Dev nD) (k : Fin 4) (d : Fin 2) (j : Fin 4) (x : S256x1024.Idx) :
    blkS m c k d j x = ∑ t : Fin 1024,
      (xB m c k (ix2 (⟨256 * j.val + (x 0).val, by have := (x 0).isLt; have := j.isLt; change (x 0).val < 256 at *; omega⟩ : Fin 1024) t) : EReal)
        * (wB m c d (ix2 t (x 1 : Fin 1024)) : EReal) := by
  simp only [blkS, blk, dotP, castV, shapeCast_self]
  pointwise
  refine Finset.sum_congr rfl fun t _ => congrArg₂ (fun p q : EReal => p * q)
    (congrArg (fun r => (xB m c k (ix2 r t) : EReal)) (Fin.ext ?_)) (congrArg (fun l => (wB m c d (ix2 t l) : EReal)) (Fin.ext ?_))
  · show 256 * j.val + 1 * (x 0).val = 256 * j.val + (x 0).val; omega
  · show 0 + 1 * (x 1).val = (x 1).val; omega

/-- The activations' rows `k` on device `c`, in the whole array. -/
theorem xB_whole (X : (⟨2, ![4096, 4096]⟩ : Shape).Idx → EReal) (c : Dev nD)
    (h : m ((c : Thread nD τ).loc main_arg0) = Layout.block ⟨2, ![4096, 1024]⟩ ⟨2, ![4096, 4096]⟩ 1 4 c X)
    (k : Fin 4) (r t : Fin 1024) (i : Fin 4096) (K : Fin 4096) (hi : i.val = 1024 * k.val + r.val) (hK : K.val = t.val + 1024 * c.val) :
    xB m c k (ix2 r t) = X (ix2 i K) := by
  have e : xB m c k (ix2 r t) = m ((c : Thread nD τ).loc main_arg0) ((rowOff k).rect.emb (ix2 r t)) := rfl
  rw [e, h, Layout.block_apply]
  refine congrArg X (funext fun a => Fin.ext ?_)
  match a with
  | ⟨0, _⟩ =>
    refine (Layout.idx_cols_val _ c _).1.trans ?_
    show (1024 * k.val + 1 * r.val) = i.val
    omega
  | ⟨1, _⟩ =>
    refine (Layout.idx_cols_val _ c _).2.trans ?_
    show c.val * 1024 + (0 + 1 * t.val) = K.val
    omega

/-- Half `d` of the weights on device `c`, in the whole array. -/
theorem wB_whole (W : (⟨2, ![4096, 2048]⟩ : Shape).Idx → EReal) (c : Dev nD)
    (h : m ((c : Thread nD τ).loc main_arg1) = Layout.block ⟨2, ![1024, 2048]⟩ ⟨2, ![4096, 2048]⟩ 0 4 c W)
    (d : Fin 2) (t l : Fin 1024) (K : Fin 4096) (i : Fin 2048) (hi : i.val = 1024 * d.val + l.val) (hK : K.val = t.val + 1024 * c.val) :
    wB m c d (ix2 t l) = W (ix2 K i) := by
  have e : wB m c d (ix2 t l) = m ((c : Thread nD τ).loc main_arg1) ((wRect d).emb (ix2 t l)) := rfl
  rw [e, h, Layout.block_apply]
  refine congrArg W (funext fun a => Fin.ext ?_)
  match a with
  | ⟨0, _⟩ =>
    refine (Layout.idx_rows_val _ c _).1.trans ?_
    show c.val * 1024 + (0 + 1 * t.val) = K.val
    omega
  | ⟨1, _⟩ =>
    refine (Layout.idx_rows_val _ c _).2.trans ?_
    show (1024 * d.val + 1 * l.val) = i.val
    omega

/-! ## The whole -/

/-- What the plain program computes of whole arrays. -/
abbrev plain (X : FVec Ideal Cert.ReferenceIdeal.S4096x4096 .f32) (W : FVec Ideal Cert.ReferenceIdeal.S4096x2048 .f32)
    (a b : FVec Ideal Cert.ReferenceIdeal.S1 .f32) : FVec Ideal Cert.ReferenceIdeal.S4096x2048 .f32 :=
  maximumf (mulf (Host.dotGeneral Cert.ReferenceIdeal.dot_S4096x4096_S4096x2048_S4096x2048_1_0_0_1_n_n none X W)
    (broadcastInDim Cert.ReferenceIdeal.S4096x2048 ![0, 1] Cert.ReferenceIdeal.Gen.facts.bcast_S1x1_S4096x2048_0_1
      (broadcastInDim Cert.ReferenceIdeal.S1x1 ![1] Cert.ReferenceIdeal.Gen.facts.bcast_S1_S1x1_1 (mulf a b))))
    (broadcastInDim Cert.ReferenceIdeal.S4096x2048 ![] Cert.ReferenceIdeal.Gen.facts.bcast_S_S4096x2048 (constant Cert.ReferenceIdeal.S_ .f32 0x00000000#32))

theorem plain_apply (X : FVec Ideal Cert.ReferenceIdeal.S4096x4096 .f32) (W : FVec Ideal Cert.ReferenceIdeal.S4096x2048 .f32)
    (a b : FVec Ideal Cert.ReferenceIdeal.S1 .f32) (i : Fin 4096) (l : Fin 2048) :
    plain X W a b (ix2 i l) = max ((∑ K : Fin 4096, (X (ix2 i K) : EReal) * (W (ix2 K l) : EReal)) * ((a (ix1 0) : EReal) * (b (ix1 0) : EReal))) 0 := by
  pointwise [plain]

theorem out_plain (X : FVec Ideal Cert.ReferenceIdeal.S4096x4096 .f32) (W : FVec Ideal Cert.ReferenceIdeal.S4096x2048 .f32)
    (a b : FVec Ideal Cert.ReferenceIdeal.S1 .f32)
    (h : ∀ c : Dev nD, m ((c : Thread nD τ).loc main_arg0) = Layout.block ⟨2, ![4096, 1024]⟩ ⟨2, ![4096, 4096]⟩ 1 4 c X
      ∧ m ((c : Thread nD τ).loc main_arg1) = Layout.block ⟨2, ![1024, 2048]⟩ ⟨2, ![4096, 2048]⟩ 0 4 c W
      ∧ m ((c : Thread nD τ).loc main_arg2) = a ∧ m ((c : Thread nD τ).loc main_arg3) = b) (c : Dev nD) :
    outV m c = plain X W a b := by
  funext i
  have hs : ∀ c, scl m c = ((a (ix1 0) : EReal) * (b (ix1 0) : EReal)) := by
    intro c
    show Scalar.mulf (sclA m c) (sclB m c) = _
    rw [show sclA m c = a (ix1 0) from by rw [sclA, (h c).2.2.1]; exact congrArg a (one_idx _ _),
      show sclB m c = b (ix1 0) from by rw [sclB, (h c).2.2.2]; exact congrArg b (one_idx _ _)]
    rfl
  have hi : i = (ix2 (i 0 : Fin 4096) (i 1 : Fin 2048) : S4096x2048.Idx) := funext fun a => by match a with | ⟨0, _⟩ => rfl | ⟨1, _⟩ => rfl
  refine Eq.trans ?_ ((plain_apply X W a b (i 0) (i 1)).symm.trans (congrArg (plain X W a b) hi.symm))
  refine (res_tot m _ hs c (hOf i) (plc c (hOf i) (kOf i)) (jOf i) (inOf i)).trans ?_
  rw [chunk_plc]
  unfold tot
  refine congrArg (fun z : EReal => max (z * ((a (ix1 0) : EReal) * (b (ix1 0) : EReal))) 0) ?_
  rw [← Equiv.sum_comp (finProdFinEquiv (m := 4) (n := 1024)), Fintype.sum_prod_type]
  refine Finset.sum_congr rfl fun c' _ => (blkS_sum m c' _ _ _ _).trans (Finset.sum_congr rfl fun t _ => ?_)
  refine congrArg₂ (fun p q : EReal => p * q) (xB_whole m X c' (h c').1 _ _ t _ _ ?_ rfl) (wB_whole m W c' (h c').2.1 _ t _ _ _ ?_ rfl)
  · show (i 0).val = 1024 * ((i 0).val / 1024) + (256 * ((i 0).val % 1024 / 256) + (i 0).val % 256); omega
  · show (i 1).val = 1024 * ((i 1).val / 1024) + (i 1).val % 1024; omega

end Cert.KernelIdeal.Roll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The two printings of the kernel are one program -/

set_option maxHeartbeats 4000000 in
set_option maxRecDepth 100000 in
/-- The body as printed and the body as printed for the extended reals, at one choice of values. -/
theorem body_same : @Cert.Kernel.cc0__body Bits _ Cert.Kernel.Gen.facts = @Cert.KernelIdeal.cc0__body Bits _ Cert.KernelIdeal.Gen.facts := rfl

set_option maxHeartbeats 4000000 in
set_option maxRecDepth 100000 in
theorem table_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) => exact rfl

theorem defs_same : @Cert.Kernel.defs Bits _ Cert.Kernel.Gen.facts = @Cert.KernelIdeal.defs Bits _ Cert.KernelIdeal.Gen.facts :=
  congrArg (Pipeline.defs (@Cert.Kernel.pcfgs Bits Cert.Kernel.Gen.facts)) table_same

/-! ## The frames -/

/-- Every run of the kernel ends, its arguments unchanged and every semaphore at zero. -/
theorem frame_roll {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.KernelIdeal.Roll.run_main (F := F) m ρ)

theorem frame_k : Cert.quiescent_Kernel (hKernel := Cert.Kernel.Gen.facts) := fun m ρ _ =>
  (congrArg (fun D => θ_run D (onTc (τ := Cert.Kernel.τ) (Cert.Kernel.main (F := Bits))) ⟨m, fun _ => 0, ρ⟩ _) defs_same).mpr
    (frame_roll (F := Bits) m ρ)

theorem frame_ki : Cert.quiescent_KernelIdeal (hKernelIdeal := Cert.KernelIdeal.Gen.facts) := fun m ρ _ => frame_roll (F := Ideal) m ρ

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

theorem value : Cert.algebraic_KernelIdeal_ReferenceIdeal (hKernelIdeal := Cert.KernelIdeal.Gen.facts) (hReferenceIdeal := Cert.ReferenceIdeal.Gen.facts) :=
  fun m ρ m' ρ' _ hm => ⟨_,
    (θ_run Cert.KernelIdeal.defs _ _).mono
      (fun _ h c => ⟨(h.1 c).1.trans (Cert.KernelIdeal.Roll.out_plain m _ _ _ _ hm c), (h.1 c).2⟩)
      (Cert.KernelIdeal.Roll.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_k, frame_ki, frame_ri, trivial, value⟩

end Cert.Proof

end
